-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_before_suppression [hKernelIdeal : Cert.KernelIdeal.Facts] [hReferenceIdeal : Cert.ReferenceIdeal.Facts] [hOn_before_suppression : Cert.On_before_suppression.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v141)) (v1 : (c : Dev Cert.KernelIdeal.nD) → Buf (Elt Ideal) ((c.tc : Thread Cert.KernelIdeal.nD Cert.KernelIdeal.τ).loc Cert.KernelIdeal.main_v144)) (v2 : (c : Dev Cert.KernelIdeal.nD) → Buf (Elt Ideal) ((c.tc : Thread Cert.KernelIdeal.nD Cert.KernelIdeal.τ).loc Cert.KernelIdeal.main_v145)) (v3 : (c : Dev Cert.KernelIdeal.nD) → Buf (Elt Ideal) ((c.tc : Thread Cert.KernelIdeal.nD Cert.KernelIdeal.τ).loc Cert.KernelIdeal.main_v146)) (v4 : (c : Dev Cert.KernelIdeal.nD) → Buf (Elt Ideal) ((c.tc : Thread Cert.KernelIdeal.nD Cert.KernelIdeal.τ).loc Cert.KernelIdeal.main_v150)) (v5 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1, 36864, 4]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v141) i = v0 c i)
          ∧ (∀ i : (⟨3, ![1, 36864, 2]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v144) i = v1 c i)
          ∧ (∀ i : (⟨2, ![2000, 4]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v145) i = v2 c i)
          ∧ (∀ i : (⟨1, ![2000]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v146) i = v3 c i)
          ∧ (∀ i : (⟨1, ![2000]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v150) i = v4 c i)
          ∧ (∀ i : (⟨2, ![36864, 4]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 i = 1#1 → r.2.mem ((c.tc : Thread Cert.KernelIdeal.nD Cert.KernelIdeal.τ).loc Cert.KernelIdeal.main_v22) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1, 36864, 4]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v63) i = v0 c i)
          ∧ (∀ i : (⟨3, ![1, 36864, 2]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v65) i = v1 c i)
          ∧ (∀ i : (⟨2, ![2000, 4]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v182_9) i = v2 c i)
          ∧ (∀ i : (⟨1, ![2000]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v183) i = v3 c i)
          ∧ (∀ i : (⟨1, ![2000]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v182_10) i = v4 c i)
          ∧ (∀ i : (⟨2, ![36864, 4]⟩ : Shape).Idx, (Cert.On_before_suppression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 i = 1#1 → r.2.mem ((c.tc : Thread Cert.ReferenceIdeal.nD Cert.ReferenceIdeal.τ).loc Cert.ReferenceIdeal.main_v101) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hOn_before_suppression : Cert.On_before_suppression.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_before_suppression (hKernelIdeal := hKernelIdeal) (hReferenceIdeal := hReferenceIdeal) (hOn_before_suppression := hOn_before_suppression)
-- ==== On_before_suppression.lean ====
abbrev S1x256x64x64 : Shape := ⟨4, ![1, 256, 64, 64]⟩
abbrev S256x256x3x3 : Shape := ⟨4, ![256, 256, 3, 3]⟩
abbrev S256 : Shape := ⟨1, ![256]⟩
abbrev S18x256x1x1 : Shape := ⟨4, ![18, 256, 1, 1]⟩
abbrev S18 : Shape := ⟨1, ![18]⟩
abbrev S36x256x1x1 : Shape := ⟨4, ![36, 256, 1, 1]⟩
abbrev S36 : Shape := ⟨1, ![36]⟩
abbrev S2 : Shape := ⟨1, ![2]⟩
abbrev S_ : Shape := ⟨0, ![]⟩
abbrev S1x36864x4 : Shape := ⟨3, ![1, 36864, 4]⟩
abbrev S1x36864x2 : Shape := ⟨3, ![1, 36864, 2]⟩
abbrev S2000x4 : Shape := ⟨2, ![2000, 4]⟩
abbrev S2000 : Shape := ⟨1, ![2000]⟩
abbrev S36864x4 : Shape := ⟨2, ![36864, 4]⟩

class Facts : Prop where
  bcast_S_S1x36864x4 : S_.BroadcastsInDim S1x36864x4 (![] : Fin 0 → Fin S1x36864x4.rank)
  bcast_S_S1x36864x2 : S_.BroadcastsInDim S1x36864x2 (![] : Fin 0 → Fin S1x36864x2.rank)
  bcast_S_S2000x4 : S_.BroadcastsInDim S2000x4 (![] : Fin 0 → Fin S2000x4.rank)
  bcast_S_S2000 : S_.BroadcastsInDim S2000 (![] : Fin 0 → Fin S2000.rank)
  bcast_S_S36864x4 : S_.BroadcastsInDim S36864x4 (![] : Fin 0 → Fin S36864x4.rank)

variable [Facts]

def fn {F : FTy → Type} [FloatOps F] (main_arg0 : FVec F S1x256x64x64 .f32) (main_arg1 : FVec F S256x256x3x3 .f32) (main_arg2 : FVec F S256 .f32) (main_arg3 : FVec F S18x256x1x1 .f32) (main_arg4 : FVec F S18 .f32) (main_arg5 : FVec F S36x256x1x1 .f32) (main_arg6 : FVec F S36 .f32) (main_arg7 : IVec S2 32) : IVec S1x36864x4 1 × IVec S1x36864x2 1 × IVec S2000x4 1 × IVec S2000 1 × IVec S2000 1 × IVec S36864x4 1 :=
  let main_c : IVec S_ 1 := constantI S_ 1 1#1
  let main_v0 : IVec S1x36864x4 1 := broadcastInDim S1x36864x4 ![] bcast_S_S1x36864x4 main_c
  let main_c_0 : IVec S_ 1 := constantI S_ 1 1#1
  let main_v1 : IVec S1x36864x2 1 := broadcastInDim S1x36864x2 ![] bcast_S_S1x36864x2 main_c_0
  let main_c_1 : IVec S_ 1 := constantI S_ 1 0#1
  let main_v2 : IVec S2000x4 1 := broadcastInDim S2000x4 ![] bcast_S_S2000x4 main_c_1
  let main_c_2 : IVec S_ 1 := constantI S_ 1 1#1
  let main_v3 : IVec S2000 1 := broadcastInDim S2000 ![] bcast_S_S2000 main_c_2
  let main_c_3 : IVec S_ 1 := constantI S_ 1 0#1
  let main_v4 : IVec S2000 1 := broadcastInDim S2000 ![] bcast_S_S2000 main_c_3
  let main_c_4 : IVec S_ 1 := constantI S_ 1 1#1
  let main_v5 : IVec S36864x4 1 := broadcastInDim S36864x4 ![] bcast_S_S36864x4 main_c_4
  (main_v0, main_v1, main_v2, main_v3, main_v4, main_v5)
-- ==== Kernel.lean ====
abbrev S1x256x64x64 : Shape := ⟨4, ![1, 256, 64, 64]⟩
abbrev S256x256x3x3 : Shape := ⟨4, ![256, 256, 3, 3]⟩
abbrev S256 : Shape := ⟨1, ![256]⟩
abbrev S18x256x1x1 : Shape := ⟨4, ![18, 256, 1, 1]⟩
abbrev S18 : Shape := ⟨1, ![18]⟩
abbrev S36x256x1x1 : Shape := ⟨4, ![36, 256, 1, 1]⟩
abbrev S36 : Shape := ⟨1, ![36]⟩
abbrev S2 : Shape := ⟨1, ![2]⟩
abbrev S1x9x4 : Shape := ⟨3, ![1, 9, 4]⟩
abbrev S64 : Shape := ⟨1, ![64]⟩
abbrev S_ : Shape := ⟨0, ![]⟩
abbrev S64x64 : Shape := ⟨2, ![64, 64]⟩
abbrev S4096 : Shape := ⟨1, ![4096]⟩
abbrev S4096x1 : Shape := ⟨2, ![4096, 1]⟩
abbrev S4096x4 : Shape := ⟨2, ![4096, 4]⟩
abbrev S4096x1x4 : Shape := ⟨3, ![4096, 1, 4]⟩
abbrev S4096x9x4 : Shape := ⟨3, ![4096, 9, 4]⟩
abbrev S36864x4 : Shape := ⟨2, ![36864, 4]⟩
abbrev S256x64x64 : Shape := ⟨3, ![256, 64, 64]⟩
abbrev S64x64x256 : Shape := ⟨3, ![64, 64, 256]⟩
abbrev S66x66x256 : Shape := ⟨3, ![66, 66, 256]⟩
abbrev S4096x256 : Shape := ⟨2, ![4096, 256]⟩
abbrev S1x4096x256 : Shape := ⟨3, ![1, 4096, 256]⟩
abbrev S9x4096x256 : Shape := ⟨3, ![9, 4096, 256]⟩
abbrev S256x256x1x1 : Shape := ⟨4, ![256, 256, 1, 1]⟩
abbrev S256x256 : Shape := ⟨2, ![256, 256]⟩
abbrev S1x256x256 : Shape := ⟨3, ![1, 256, 256]⟩
abbrev S9x256x256 : Shape := ⟨3, ![9, 256, 256]⟩
abbrev S36x256 : Shape := ⟨2, ![36, 256]⟩
abbrev S256x36 : Shape := ⟨2, ![256, 36]⟩
abbrev S36x1 : Shape := ⟨2, ![36, 1]⟩
abbrev S18x256 : Shape := ⟨2, ![18, 256]⟩
abbrev S256x18 : Shape := ⟨2, ![256, 18]⟩
abbrev S18x1 : Shape := ⟨2, ![18, 1]⟩
abbrev S1x36 : Shape := ⟨2, ![1, 36]⟩
abbrev S1x18 : Shape := ⟨2, ![1, 18]⟩
abbrev S36864x1 : Shape := ⟨2, ![36864, 1]⟩
abbrev S36864 : Shape := ⟨1, ![36864]⟩
abbrev S4096x9 : Shape := ⟨2, ![4096, 9]⟩
abbrev S1x256 : Shape := ⟨2, ![1, 256]⟩
abbrev S4096x36 : Shape := ⟨2, ![4096, 36]⟩
abbrev S4096x18 : Shape := ⟨2, ![4096, 18]⟩
abbrev S1 : Shape := ⟨1, ![1]⟩
abbrev S288x128 : Shape := ⟨2, ![288, 128]⟩
abbrev S2000x1 : Shape := ⟨2, ![2000, 1]⟩
abbrev S1x288x128 : Shape := ⟨3, ![1, 288, 128]⟩
abbrev S1x1x1 : Shape := ⟨3, ![1, 1, 1]⟩
abbrev S1x1 : Shape := ⟨2, ![1, 1]⟩
abbrev S4096x4x9 : Shape := ⟨3, ![4096, 4, 9]⟩
abbrev S1x36864x4 : Shape := ⟨3, ![1, 36864, 4]⟩
abbrev S4096x2x9 : Shape := ⟨3, ![4096, 2, 9]⟩
abbrev S4096x9x2 : Shape := ⟨3, ![4096, 9, 2]⟩
abbrev S1x36864x2 : Shape := ⟨3, ![1, 36864, 2]⟩
abbrev S2000x4 : Shape := ⟨2, ![2000, 4]⟩
abbrev S2000 : Shape := ⟨1, ![2000]⟩

abbrev nBuf : Space → Nat
  | .hbm => 187
  | .vmem => 35
  | .smem => 1
  | _ => 0

abbrev hbmTy0_0 (i : Nat) : BufTy := match i % 128 with
  | 0 => ⟨S1x256x64x64, .f32⟩
  | 1 => ⟨S256x256x3x3, .f32⟩
  | 2 => ⟨S256, .f32⟩
  | 3 => ⟨S18x256x1x1, .f32⟩
  | 4 => ⟨S18, .f32⟩
  | 5 => ⟨S36x256x1x1, .f32⟩
  | 6 => ⟨S36, .f32⟩
  | 7 => ⟨S2, .i32⟩
  | 8 => ⟨S1x9x4, .f32⟩
  | 9 => ⟨S36, .i32⟩
  | 10 => ⟨S36, .i1⟩
  | 11 => ⟨S18, .i32⟩
  | 12 => ⟨S18, .i1⟩
  | 13 => ⟨S36, .i1⟩
  | 14 => ⟨S18, .i1⟩
  | 15 => ⟨S64, .i32⟩
  | 16 => ⟨S_, .i32⟩
  | 17 => ⟨S64, .i32⟩
  | 18 => ⟨S64, .i32⟩
  | 19 => ⟨S64, .i32⟩
  | 20 => ⟨S_, .i32⟩
  | 21 => ⟨S64, .i32⟩
  | 22 => ⟨S64, .i32⟩
  | 23 => ⟨S64x64, .i32⟩
  | 24 => ⟨S64x64, .i32⟩
  | 25 => ⟨S4096, .i32⟩
  | 26 => ⟨S4096, .i32⟩
  | 27 => ⟨S4096, .i32⟩
  | 28 => ⟨S4096, .i32⟩
  | 29 => ⟨S4096x1, .i32⟩
  | 30 => ⟨S4096x1, .i32⟩
  | 31 => ⟨S4096x1, .i32⟩
  | 32 => ⟨S4096x1, .i32⟩
  | 33 => ⟨S4096x4, .i32⟩
  | 34 => ⟨S4096x1x4, .i32⟩
  | 35 => ⟨S4096x1x4, .f32⟩
  | 36 => ⟨S4096x9x4, .f32⟩
  | 37 => ⟨S4096x9x4, .f32⟩
  | 38 => ⟨S4096x9x4, .f32⟩
  | 39 => ⟨S36864x4, .f32⟩
  | 40 => ⟨S256x64x64, .f32⟩
  | 41 => ⟨S64x64x256, .f32⟩
  | 42 => ⟨S_, .i32⟩
  | 43 => ⟨S_, .f32⟩
  | 44 => ⟨S66x66x256, .f32⟩
  | 45 => ⟨S64x64x256, .f32⟩
  | 46 => ⟨S4096x256, .f32⟩
  | 47 => ⟨S64x64x256, .f32⟩
  | 48 => ⟨S4096x256, .f32⟩
  | 49 => ⟨S64x64x256, .f32⟩
  | 50 => ⟨S4096x256, .f32⟩
  | 51 => ⟨S64x64x256, .f32⟩
  | 52 => ⟨S4096x256, .f32⟩
  | 53 => ⟨S64x64x256, .f32⟩
  | 54 => ⟨S4096x256, .f32⟩
  | 55 => ⟨S64x64x256, .f32⟩
  | 56 => ⟨S4096x256, .f32⟩
  | 57 => ⟨S64x64x256, .f32⟩
  | 58 => ⟨S4096x256, .f32⟩
  | 59 => ⟨S64x64x256, .f32⟩
  | 60 => ⟨S4096x256, .f32⟩
  | 61 => ⟨S64x64x256, .f32⟩
  | 62 => ⟨S4096x256, .f32⟩
  | 63 => ⟨S1x4096x256, .f32⟩
  | 64 => ⟨S1x4096x256, .f32⟩
  | 65 => ⟨S1x4096x256, .f32⟩
  | 66 => ⟨S1x4096x256, .f32⟩
  | 67 => ⟨S1x4096x256, .f32⟩
  | 68 => ⟨S1x4096x256, .f32⟩
  | 69 => ⟨S1x4096x256, .f32⟩
  | 70 => ⟨S1x4096x256, .f32⟩
  | 71 => ⟨S1x4096x256, .f32⟩
  | 72 => ⟨S9x4096x256, .f32⟩
  | 73 => ⟨S256x256x1x1, .f32⟩
  | 74 => ⟨S256x256, .f32⟩
  | 75 => ⟨S256x256, .f32⟩
  | 76 => ⟨S256x256x1x1, .f32⟩
  | 77 => ⟨S256x256, .f32⟩
  | 78 => ⟨S256x256, .f32⟩
  | 79 => ⟨S256x256x1x1, .f32⟩
  | 80 => ⟨S256x256, .f32⟩
  | 81 => ⟨S256x256, .f32⟩
  | 82 => ⟨S256x256x1x1, .f32⟩
  | 83 => ⟨S256x256, .f32⟩
  | 84 => ⟨S256x256, .f32⟩
  | 85 => ⟨S256x256x1x1, .f32⟩
  | 86 => ⟨S256x256, .f32⟩
  | 87 => ⟨S256x256, .f32⟩
  | 88 => ⟨S256x256x1x1, .f32⟩
  | 89 => ⟨S256x256, .f32⟩
  | 90 => ⟨S256x256, .f32⟩
  | 91 => ⟨S256x256x1x1, .f32⟩
  | 92 => ⟨S256x256, .f32⟩
  | 93 => ⟨S256x256, .f32⟩
  | 94 => ⟨S256x256x1x1, .f32⟩
  | 95 => ⟨S256x256, .f32⟩
  | 96 => ⟨S256x256, .f32⟩
  | 97 => ⟨S256x256x1x1, .f32⟩
  | 98 => ⟨S256x256, .f32⟩
  | 99 => ⟨S256x256, .f32⟩
  | 100 => ⟨S1x256x256, .f32⟩
  | 101 => ⟨S1x256x256, .f32⟩
  | 102 => ⟨S1x256x256, .f32⟩
  | 103 => ⟨S1x256x256, .f32⟩
  | 104 => ⟨S1x256x256, .f32⟩
  | 105 => ⟨S1x256x256, .f32⟩
  | 106 => ⟨S1x256x256, .f32⟩
  | 107 => ⟨S1x256x256, .f32⟩
  | 108 => ⟨S1x256x256, .f32⟩
  | 109 => ⟨S9x256x256, .f32⟩
  | 110 => ⟨S36x256, .f32⟩
  | 111 => ⟨S256x36, .f32⟩
  | 112 => ⟨S_, .i32⟩
  | 113 => ⟨S36, .i32⟩
  | 114 => ⟨S36, .i32⟩
  | 115 => ⟨S36, .i32⟩
  | 116 => ⟨S36x1, .i32⟩
  | 117 => ⟨S256x36, .f32⟩
  | 118 => ⟨S18x256, .f32⟩
  | 119 => ⟨S256x18, .f32⟩
  | 120 => ⟨S_, .i32⟩
  | 121 => ⟨S18, .i32⟩
  | 122 => ⟨S18, .i32⟩
  | 123 => ⟨S18, .i32⟩
  | 124 => ⟨S18x1, .i32⟩
  | 125 => ⟨S256x18, .f32⟩
  | 126 => ⟨S_, .i32⟩
  | 127 => ⟨S36, .i32⟩
  | _ => ⟨S1x256x64x64, .f32⟩

abbrev hbmTy0_1 (i : Nat) : BufTy := match i % 128 with
  | 0 => ⟨S36, .i32⟩
  | 1 => ⟨S36, .i32⟩
  | 2 => ⟨S36x1, .i32⟩
  | 3 => ⟨S36, .f32⟩
  | 4 => ⟨S1x36, .f32⟩
  | 5 => ⟨S_, .i32⟩
  | 6 => ⟨S18, .i32⟩
  | 7 => ⟨S18, .i32⟩
  | 8 => ⟨S18, .i32⟩
  | 9 => ⟨S18x1, .i32⟩
  | 10 => ⟨S18, .f32⟩
  | 11 => ⟨S1x18, .f32⟩
  | 12 => ⟨S36864x1, .f32⟩
  | 13 => ⟨S36864, .f32⟩
  | 14 => ⟨S4096x9, .f32⟩
  | 15 => ⟨S36864x1, .f32⟩
  | 16 => ⟨S36864, .f32⟩
  | 17 => ⟨S4096x9, .f32⟩
  | 18 => ⟨S36864x1, .f32⟩
  | 19 => ⟨S36864, .f32⟩
  | 20 => ⟨S4096x9, .f32⟩
  | 21 => ⟨S36864x1, .f32⟩
  | 22 => ⟨S36864, .f32⟩
  | 23 => ⟨S4096x9, .f32⟩
  | 24 => ⟨S1x256, .f32⟩
  | 25 => ⟨S4096x256, .f32⟩
  | 26 => ⟨S4096x36, .f32⟩
  | 27 => ⟨S4096x18, .f32⟩
  | 28 => ⟨S4096x9, .f32⟩
  | 29 => ⟨S4096x9, .f32⟩
  | 30 => ⟨S4096x9, .f32⟩
  | 31 => ⟨S4096x9, .f32⟩
  | 32 => ⟨S4096x9, .f32⟩
  | 33 => ⟨S4096x9, .f32⟩
  | 34 => ⟨S288x128, .f32⟩
  | 35 => ⟨S288x128, .f32⟩
  | 36 => ⟨S288x128, .f32⟩
  | 37 => ⟨S288x128, .f32⟩
  | 38 => ⟨S288x128, .f32⟩
  | 39 => ⟨S288x128, .f32⟩
  | 40 => ⟨S2000x1, .f32⟩
  | 41 => ⟨S2000x1, .f32⟩
  | 42 => ⟨S2000x1, .f32⟩
  | 43 => ⟨S2000x1, .f32⟩
  | 44 => ⟨S2000x1, .i32⟩
  | 45 => ⟨S4096x4x9, .f32⟩
  | 46 => ⟨S4096x9x4, .f32⟩
  | 47 => ⟨S1x36864x4, .f32⟩
  | 48 => ⟨S4096x2x9, .f32⟩
  | 49 => ⟨S4096x9x2, .f32⟩
  | 50 => ⟨S1x36864x2, .f32⟩
  | 51 => ⟨S2000x4, .f32⟩
  | 52 => ⟨S_, .f32⟩
  | 53 => ⟨S2000, .f32⟩
  | 54 => ⟨S2000, .i32⟩
  | 55 => ⟨S_, .i32⟩
  | 56 => ⟨S2000, .i32⟩
  | 57 => ⟨S2000, .i1⟩
  | 58 => ⟨S2000, .i1⟩
  | _ => ⟨S1x256x64x64, .f32⟩

abbrev hbmTy (i : Nat) : BufTy := match i / 128 with
  | 0 => hbmTy0_0 i
  | 1 => hbmTy0_1 i
  | _ => ⟨S1x256x64x64, .f32⟩

abbrev bufTy : (tb : Table) → Fin (tcTables nBuf tb) → BufTy
  | .hbm, ⟨i, _⟩ => hbmTy i
  | .local _ .vmem, ⟨0, _⟩ => ⟨S1x4096x256, .f32⟩
  | .local _ .vmem, ⟨1, _⟩ => ⟨S1x4096x256, .f32⟩
  | .local _ .vmem, ⟨2, _⟩ => ⟨S1x256x256, .f32⟩
  | .local _ .vmem, ⟨3, _⟩ => ⟨S1x256x256, .f32⟩
  | .local _ .vmem, ⟨4, _⟩ => ⟨S1x256, .f32⟩
  | .local _ .vmem, ⟨5, _⟩ => ⟨S4096x256, .f32⟩
  | .local _ .vmem, ⟨6, _⟩ => ⟨S4096x256, .f32⟩
  | .local _ .vmem, ⟨7, _⟩ => ⟨S256x36, .f32⟩
  | .local _ .vmem, ⟨8, _⟩ => ⟨S256x18, .f32⟩
  | .local _ .vmem, ⟨9, _⟩ => ⟨S1x36, .f32⟩
  | .local _ .vmem, ⟨10, _⟩ => ⟨S1x18, .f32⟩
  | .local _ .vmem, ⟨11, _⟩ => ⟨S4096x9, .f32⟩
  | .local _ .vmem, ⟨12, _⟩ => ⟨S4096x9, .f32⟩
  | .local _ .vmem, ⟨13, _⟩ => ⟨S4096x9, .f32⟩
  | .local _ .vmem, ⟨14, _⟩ => ⟨S4096x9, .f32⟩
  | .local _ .vmem, ⟨15, _⟩ => ⟨S4096x36, .f32⟩
  | .local _ .vmem, ⟨16, _⟩ => ⟨S4096x18, .f32⟩
  | .local _ .vmem, ⟨17, _⟩ => ⟨S4096x9, .f32⟩
  | .local _ .vmem, ⟨18, _⟩ => ⟨S4096x9, .f32⟩
  | .local _ .vmem, ⟨19, _⟩ => ⟨S4096x9, .f32⟩
  | .local _ .vmem, ⟨20, _⟩ => ⟨S4096x9, .f32⟩
  | .local _ .vmem, ⟨21, _⟩ => ⟨S4096x9, .f32⟩
  | .local _ .vmem, ⟨22, _⟩ => ⟨S4096x9, .f32⟩
  | .local _ .vmem, ⟨23, _⟩ => ⟨S288x128, .f32⟩
  | .local _ .vmem, ⟨24, _⟩ => ⟨S288x128, .f32⟩
  | .local _ .vmem, ⟨25, _⟩ => ⟨S288x128, .f32⟩
  | .local _ .vmem, ⟨26, _⟩ => ⟨S288x128, .f32⟩
  | .local _ .vmem, ⟨27, _⟩ => ⟨S288x128, .f32⟩
  | .local _ .vmem, ⟨28, _⟩ => ⟨S288x128, .f32⟩
  | .local _ .vmem, ⟨29, _⟩ => ⟨S2000x1, .f32⟩
  | .local _ .vmem, ⟨30, _⟩ => ⟨S2000x1, .f32⟩
  | .local _ .vmem, ⟨31, _⟩ => ⟨S2000x1, .f32⟩
  | .local _ .vmem, ⟨32, _⟩ => ⟨S2000x1, .f32⟩
  | .local _ .vmem, ⟨33, _⟩ => ⟨S2000x1, .i32⟩
  | .local _ .vmem, ⟨34, _⟩ => ⟨S288x128, .f32⟩
  | .local _ .smem, ⟨0, _⟩ => ⟨S2, .i32⟩
  | _, _ => ⟨S1x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_v0 : Ref sig .tc := ⟨.hbm, 15, rfl⟩
abbrev main_c_5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_6 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_call0_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_c_8 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_c_9 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_c_10 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_c_11 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131_0 : Ref sig .tc := ⟨.hbm, 154, rfl⟩
abbrev main_v131_1 : Ref sig .tc := ⟨.hbm, 155, rfl⟩
abbrev main_v131_2 : Ref sig .tc := ⟨.hbm, 156, rfl⟩
abbrev main_v131_3 : Ref sig .tc := ⟨.hbm, 157, rfl⟩
abbrev main_v131_4 : Ref sig .tc := ⟨.hbm, 158, rfl⟩
abbrev main_v131_5 : Ref sig .tc := ⟨.hbm, 159, rfl⟩
abbrev main_v131_6 : Ref sig .tc := ⟨.hbm, 160, rfl⟩
abbrev main_v131_7 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138_0 : Ref sig .tc := ⟨.hbm, 168, rfl⟩
abbrev main_v138_1 : Ref sig .tc := ⟨.hbm, 169, rfl⟩
abbrev main_v138_2 : Ref sig .tc := ⟨.hbm, 170, rfl⟩
abbrev main_v138_3 : Ref sig .tc := ⟨.hbm, 171, rfl⟩
abbrev main_v138_4 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_12 : Ref sig .tc := ⟨.hbm, 180, rfl⟩
abbrev main_v146 : Ref sig .tc := ⟨.hbm, 181, rfl⟩
abbrev main_v147 : Ref sig .tc := ⟨.hbm, 182, rfl⟩
abbrev main_c_13 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg12_0 : Ref sig .tc := ⟨.vmem, 17, rfl⟩
abbrev cc1_stg13_0 : Ref sig .tc := ⟨.vmem, 18, rfl⟩
abbrev cc1_stg14_0 : Ref sig .tc := ⟨.vmem, 19, rfl⟩
abbrev cc1_stg15_0 : Ref sig .tc := ⟨.vmem, 20, rfl⟩
abbrev cc1_stg16_0 : Ref sig .tc := ⟨.vmem, 21, rfl⟩
abbrev cc1_stg17_0 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_scratch0 : Ref sig .tc := ⟨.vmem, 34, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc1_sem14_0 : DmaSem sig := 20
abbrev cc1_sem15_0 : DmaSem sig := 21
abbrev cc1_sem16_0 : DmaSem sig := 22
abbrev cc1_sem17_0 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

abbrev stage1_0 : Fin 1 → Memref sig .tc .smem S2 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x36 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x18 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x36 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x18 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4096x9 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S4096x9 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S4096x9 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S4096x9 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S4096x36 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S4096x18 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S4096x9 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S4096x9 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S4096x9 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S4096x9 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S4096x9 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S4096x9 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev grid2 : Pipeline.Grid := .none

@[reducible] def k2_t1_loop : Scf.Loop 32 :=
  let c0_i32 : BitVec 32 := 0#32
  let c2000_i32 : BitVec 32 := 2000#32
  let v20 : BitVec 32 := Scalar.addi c0_i32 c2000_i32
  let c1_i32 : BitVec 32 := 1#32
  ⟨c0_i32, v20, c1_i32⟩
def k2_off1 (k2_t1 : Fin k2_t1_loop.trips) : Fin 2 → Nat :=
  let c0_i32 : BitVec 32 := 0#32
  let c1_i32 : BitVec 32 := 1#32
  let arg12 : BitVec 32 := Scf.iv c0_i32 c1_i32 k2_t1
  let v106 : Index := Scalar.indexCast arg12
  let c0_31 : Index := 0#32
  ![v106.toNat, 0]
abbrev stage2_0 : Fin 1 → Memref sig .tc .vmem S288x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S288x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S288x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S288x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S288x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S288x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S2000x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S2000x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S2000x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S2000x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S2000x1 .i32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
-- ==== ReferenceIdeal.lean ====
abbrev S1x256x64x64 : Shape := ⟨4, ![1, 256, 64, 64]⟩
abbrev S256x256x3x3 : Shape := ⟨4, ![256, 256, 3, 3]⟩
abbrev S256 : Shape := ⟨1, ![256]⟩
abbrev S18x256x1x1 : Shape := ⟨4, ![18, 256, 1, 1]⟩
abbrev S18 : Shape := ⟨1, ![18]⟩
abbrev S36x256x1x1 : Shape := ⟨4, ![36, 256, 1, 1]⟩
abbrev S36 : Shape := ⟨1, ![36]⟩
abbrev S2 : Shape := ⟨1, ![2]⟩
abbrev S1x9x4 : Shape := ⟨3, ![1, 9, 4]⟩
abbrev S256x64x64 : Shape := ⟨3, ![256, 64, 64]⟩
abbrev S_ : Shape := ⟨0, ![]⟩
abbrev S256x66x66 : Shape := ⟨3, ![256, 66, 66]⟩
abbrev S256x256x1x1 : Shape := ⟨4, ![256, 256, 1, 1]⟩
abbrev S256x256 : Shape := ⟨2, ![256, 256]⟩
abbrev S256x1x1 : Shape := ⟨3, ![256, 1, 1]⟩
abbrev S36x256 : Shape := ⟨2, ![36, 256]⟩
abbrev S36x64x64 : Shape := ⟨3, ![36, 64, 64]⟩
abbrev S36x1x1 : Shape := ⟨3, ![36, 1, 1]⟩
abbrev S18x256 : Shape := ⟨2, ![18, 256]⟩
abbrev S18x64x64 : Shape := ⟨3, ![18, 64, 64]⟩
abbrev S18x1x1 : Shape := ⟨3, ![18, 1, 1]⟩
abbrev S64x64x36 : Shape := ⟨3, ![64, 64, 36]⟩
abbrev S1x36864x4 : Shape := ⟨3, ![1, 36864, 4]⟩
abbrev S64x64x18 : Shape := ⟨3, ![64, 64, 18]⟩
abbrev S1x36864x2 : Shape := ⟨3, ![1, 36864, 2]⟩
abbrev S1x36864 : Shape := ⟨2, ![1, 36864]⟩
abbrev S1x36864x1 : Shape := ⟨3, ![1, 36864, 1]⟩
abbrev S64 : Shape := ⟨1, ![64]⟩
abbrev S64x64 : Shape := ⟨2, ![64, 64]⟩
abbrev S4096 : Shape := ⟨1, ![4096]⟩
abbrev S4096x1 : Shape := ⟨2, ![4096, 1]⟩
abbrev S4096x4 : Shape := ⟨2, ![4096, 4]⟩
abbrev S4096x1x4 : Shape := ⟨3, ![4096, 1, 4]⟩
abbrev S4096x9x4 : Shape := ⟨3, ![4096, 9, 4]⟩
abbrev S36864x4 : Shape := ⟨2, ![36864, 4]⟩
abbrev S36864 : Shape := ⟨1, ![36864]⟩
abbrev S36864x1 : Shape := ⟨2, ![36864, 1]⟩
abbrev S1 : Shape := ⟨1, ![1]⟩
abbrev S2000x4 : Shape := ⟨2, ![2000, 4]⟩
abbrev S2000 : Shape := ⟨1, ![2000]⟩
abbrev S1x4 : Shape := ⟨2, ![1, 4]⟩
abbrev S4 : Shape := ⟨1, ![4]⟩

abbrev nBuf : Space → Nat
  | .hbm => 375
  | .vmem => 0
  | .smem => 0
  | _ => 0

abbrev hbmTy0_0 (i : Nat) : BufTy := match i % 128 with
  | 0 => ⟨S1x256x64x64, .f32⟩
  | 1 => ⟨S256x256x3x3, .f32⟩
  | 2 => ⟨S256, .f32⟩
  | 3 => ⟨S18x256x1x1, .f32⟩
  | 4 => ⟨S18, .f32⟩
  | 5 => ⟨S36x256x1x1, .f32⟩
  | 6 => ⟨S36, .f32⟩
  | 7 => ⟨S2, .i32⟩
  | 8 => ⟨S1x9x4, .f32⟩
  | 9 => ⟨S256x64x64, .f32⟩
  | 10 => ⟨S_, .i32⟩
  | 11 => ⟨S_, .f32⟩
  | 12 => ⟨S256x66x66, .f32⟩
  | 13 => ⟨S256x256x1x1, .f32⟩
  | 14 => ⟨S256x256, .f32⟩
  | 15 => ⟨S256x64x64, .f32⟩
  | 16 => ⟨S256x64x64, .f32⟩
  | 17 => ⟨S_, .f32⟩
  | 18 => ⟨S256x64x64, .f32⟩
  | 19 => ⟨S256x64x64, .f32⟩
  | 20 => ⟨S256x256x1x1, .f32⟩
  | 21 => ⟨S256x256, .f32⟩
  | 22 => ⟨S256x64x64, .f32⟩
  | 23 => ⟨S256x64x64, .f32⟩
  | 24 => ⟨S256x64x64, .f32⟩
  | 25 => ⟨S256x256x1x1, .f32⟩
  | 26 => ⟨S256x256, .f32⟩
  | 27 => ⟨S256x64x64, .f32⟩
  | 28 => ⟨S256x64x64, .f32⟩
  | 29 => ⟨S256x64x64, .f32⟩
  | 30 => ⟨S256x256x1x1, .f32⟩
  | 31 => ⟨S256x256, .f32⟩
  | 32 => ⟨S256x64x64, .f32⟩
  | 33 => ⟨S256x64x64, .f32⟩
  | 34 => ⟨S256x64x64, .f32⟩
  | 35 => ⟨S256x256x1x1, .f32⟩
  | 36 => ⟨S256x256, .f32⟩
  | 37 => ⟨S256x64x64, .f32⟩
  | 38 => ⟨S256x64x64, .f32⟩
  | 39 => ⟨S256x64x64, .f32⟩
  | 40 => ⟨S256x256x1x1, .f32⟩
  | 41 => ⟨S256x256, .f32⟩
  | 42 => ⟨S256x64x64, .f32⟩
  | 43 => ⟨S256x64x64, .f32⟩
  | 44 => ⟨S256x64x64, .f32⟩
  | 45 => ⟨S256x256x1x1, .f32⟩
  | 46 => ⟨S256x256, .f32⟩
  | 47 => ⟨S256x64x64, .f32⟩
  | 48 => ⟨S256x64x64, .f32⟩
  | 49 => ⟨S256x64x64, .f32⟩
  | 50 => ⟨S256x256x1x1, .f32⟩
  | 51 => ⟨S256x256, .f32⟩
  | 52 => ⟨S256x64x64, .f32⟩
  | 53 => ⟨S256x64x64, .f32⟩
  | 54 => ⟨S256x64x64, .f32⟩
  | 55 => ⟨S256x256x1x1, .f32⟩
  | 56 => ⟨S256x256, .f32⟩
  | 57 => ⟨S256x64x64, .f32⟩
  | 58 => ⟨S256x64x64, .f32⟩
  | 59 => ⟨S256x64x64, .f32⟩
  | 60 => ⟨S256x1x1, .f32⟩
  | 61 => ⟨S256x64x64, .f32⟩
  | 62 => ⟨S256x64x64, .f32⟩
  | 63 => ⟨S_, .f32⟩
  | 64 => ⟨S256x64x64, .f32⟩
  | 65 => ⟨S256x64x64, .f32⟩
  | 66 => ⟨S36x256, .f32⟩
  | 67 => ⟨S36x64x64, .f32⟩
  | 68 => ⟨S36x1x1, .f32⟩
  | 69 => ⟨S36x64x64, .f32⟩
  | 70 => ⟨S36x64x64, .f32⟩
  | 71 => ⟨S18x256, .f32⟩
  | 72 => ⟨S18x64x64, .f32⟩
  | 73 => ⟨S18x1x1, .f32⟩
  | 74 => ⟨S18x64x64, .f32⟩
  | 75 => ⟨S18x64x64, .f32⟩
  | 76 => ⟨S64x64x36, .f32⟩
  | 77 => ⟨S1x36864x4, .f32⟩
  | 78 => ⟨S64x64x18, .f32⟩
  | 79 => ⟨S1x36864x2, .f32⟩
  | 80 => ⟨S_, .f32⟩
  | 81 => ⟨S1x36864, .f32⟩
  | 82 => ⟨S_, .f32⟩
  | 83 => ⟨S1x36864, .f32⟩
  | 84 => ⟨S1x36864, .f32⟩
  | 85 => ⟨S1x36864x1, .f32⟩
  | 86 => ⟨S1x36864x2, .f32⟩
  | 87 => ⟨S1x36864x2, .f32⟩
  | 88 => ⟨S1x36864x2, .f32⟩
  | 89 => ⟨S_, .f32⟩
  | 90 => ⟨S1x36864, .f32⟩
  | 91 => ⟨S1x36864x1, .f32⟩
  | 92 => ⟨S1x36864x2, .f32⟩
  | 93 => ⟨S1x36864x2, .f32⟩
  | 94 => ⟨S1x36864x1, .f32⟩
  | 95 => ⟨S1x36864, .f32⟩
  | 96 => ⟨S64, .i32⟩
  | 97 => ⟨S_, .i32⟩
  | 98 => ⟨S64, .i32⟩
  | 99 => ⟨S64, .i32⟩
  | 100 => ⟨S64, .i32⟩
  | 101 => ⟨S_, .i32⟩
  | 102 => ⟨S64, .i32⟩
  | 103 => ⟨S64, .i32⟩
  | 104 => ⟨S64x64, .i32⟩
  | 105 => ⟨S64x64, .i32⟩
  | 106 => ⟨S4096, .i32⟩
  | 107 => ⟨S4096, .i32⟩
  | 108 => ⟨S4096, .i32⟩
  | 109 => ⟨S4096, .i32⟩
  | 110 => ⟨S4096x1, .i32⟩
  | 111 => ⟨S4096x1, .i32⟩
  | 112 => ⟨S4096x1, .i32⟩
  | 113 => ⟨S4096x1, .i32⟩
  | 114 => ⟨S4096x4, .i32⟩
  | 115 => ⟨S4096x1x4, .i32⟩
  | 116 => ⟨S4096x1x4, .f32⟩
  | 117 => ⟨S4096x9x4, .f32⟩
  | 118 => ⟨S4096x9x4, .f32⟩
  | 119 => ⟨S4096x9x4, .f32⟩
  | 120 => ⟨S36864x4, .f32⟩
  | 121 => ⟨S36864x4, .f32⟩
  | 122 => ⟨S36864, .f32⟩
  | 123 => ⟨S36864x1, .f32⟩
  | 124 => ⟨S36864, .f32⟩
  | 125 => ⟨S36864x1, .f32⟩
  | 126 => ⟨S36864, .f32⟩
  | 127 => ⟨S36864x1, .f32⟩
  | _ => ⟨S1x256x64x64, .f32⟩

abbrev hbmTy0_1 (i : Nat) : BufTy := match i % 128 with
  | 0 => ⟨S36864, .f32⟩
  | 1 => ⟨S36864x1, .f32⟩
  | 2 => ⟨S36864, .f32⟩
  | 3 => ⟨S_, .f32⟩
  | 4 => ⟨S36864, .f32⟩
  | 5 => ⟨S36864, .f32⟩
  | 6 => ⟨S36864x1, .f32⟩
  | 7 => ⟨S36864, .f32⟩
  | 8 => ⟨S36864, .f32⟩
  | 9 => ⟨S_, .f32⟩
  | 10 => ⟨S36864, .f32⟩
  | 11 => ⟨S36864, .f32⟩
  | 12 => ⟨S36864x1, .f32⟩
  | 13 => ⟨S36864, .f32⟩
  | 14 => ⟨S36864, .f32⟩
  | 15 => ⟨S36864, .f32⟩
  | 16 => ⟨S36864x1, .f32⟩
  | 17 => ⟨S36864, .f32⟩
  | 18 => ⟨S36864x1, .f32⟩
  | 19 => ⟨S36864, .f32⟩
  | 20 => ⟨S36864, .f32⟩
  | 21 => ⟨S36864, .f32⟩
  | 22 => ⟨S36864, .f32⟩
  | 23 => ⟨S36864x1, .f32⟩
  | 24 => ⟨S36864, .f32⟩
  | 25 => ⟨S36864x1, .f32⟩
  | 26 => ⟨S36864, .f32⟩
  | 27 => ⟨S36864, .f32⟩
  | 28 => ⟨S36864, .f32⟩
  | 29 => ⟨S1, .i32⟩
  | 30 => ⟨S_, .i32⟩
  | 31 => ⟨S_, .f32⟩
  | 32 => ⟨S1, .i32⟩
  | 33 => ⟨S_, .i32⟩
  | 34 => ⟨S_, .f32⟩
  | 35 => ⟨S_, .f32⟩
  | 36 => ⟨S_, .f32⟩
  | 37 => ⟨S36864, .f32⟩
  | 38 => ⟨S36864, .f32⟩
  | 39 => ⟨S36864, .f32⟩
  | 40 => ⟨S36864, .f32⟩
  | 41 => ⟨S36864, .f32⟩
  | 42 => ⟨S_, .f32⟩
  | 43 => ⟨S_, .f32⟩
  | 44 => ⟨S36864, .f32⟩
  | 45 => ⟨S36864, .f32⟩
  | 46 => ⟨S36864, .f32⟩
  | 47 => ⟨S36864, .f32⟩
  | 48 => ⟨S_, .f32⟩
  | 49 => ⟨S_, .f32⟩
  | 50 => ⟨S36864, .f32⟩
  | 51 => ⟨S36864, .f32⟩
  | 52 => ⟨S36864, .f32⟩
  | 53 => ⟨S36864, .f32⟩
  | 54 => ⟨S36864, .f32⟩
  | 55 => ⟨S_, .f32⟩
  | 56 => ⟨S_, .f32⟩
  | 57 => ⟨S36864, .f32⟩
  | 58 => ⟨S36864, .f32⟩
  | 59 => ⟨S36864, .f32⟩
  | 60 => ⟨S36864, .f32⟩
  | 61 => ⟨S36864x1, .f32⟩
  | 62 => ⟨S36864x1, .f32⟩
  | 63 => ⟨S36864x1, .f32⟩
  | 64 => ⟨S36864x1, .f32⟩
  | 65 => ⟨S36864x4, .f32⟩
  | 66 => ⟨S36864, .f32⟩
  | 67 => ⟨S_, .f32⟩
  | 68 => ⟨S36864, .f32⟩
  | 69 => ⟨S36864, .f32⟩
  | 70 => ⟨S36864, .f32⟩
  | 71 => ⟨S_, .f32⟩
  | 72 => ⟨S36864, .f32⟩
  | 73 => ⟨S36864, .f32⟩
  | 74 => ⟨S_, .f32⟩
  | 75 => ⟨S36864, .f32⟩
  | 76 => ⟨S36864, .i1⟩
  | 77 => ⟨S_, .f32⟩
  | 78 => ⟨S36864, .f32⟩
  | 79 => ⟨S36864, .i1⟩
  | 80 => ⟨S36864, .i1⟩
  | 81 => ⟨S_, .f32⟩
  | 82 => ⟨S_, .f32⟩
  | 83 => ⟨S36864, .f32⟩
  | 84 => ⟨S36864, .f32⟩
  | 85 => ⟨S36864x1, .f32⟩
  | 86 => ⟨S36864, .f32⟩
  | 87 => ⟨S36864x1, .f32⟩
  | 88 => ⟨S36864, .f32⟩
  | 89 => ⟨S36864x1, .f32⟩
  | 90 => ⟨S36864, .f32⟩
  | 91 => ⟨S36864x1, .f32⟩
  | 92 => ⟨S36864, .f32⟩
  | 93 => ⟨S36864, .f32⟩
  | 94 => ⟨S_, .f32⟩
  | 95 => ⟨S36864, .f32⟩
  | 96 => ⟨S36864, .f32⟩
  | 97 => ⟨S36864, .f32⟩
  | 98 => ⟨S_, .f32⟩
  | 99 => ⟨S36864, .f32⟩
  | 100 => ⟨S36864, .f32⟩
  | 101 => ⟨S36864, .f32⟩
  | 102 => ⟨S_, .f32⟩
  | 103 => ⟨S2000x4, .f32⟩
  | 104 => ⟨S_, .i1⟩
  | 105 => ⟨S2000, .i1⟩
  | 106 => ⟨S_, .i32⟩
  | 107 => ⟨S_, .i32⟩
  | 108 => ⟨S36864x4, .f32⟩
  | 109 => ⟨S36864, .f32⟩
  | 110 => ⟨S36864, .f32⟩
  | 111 => ⟨S36864, .f32⟩
  | 112 => ⟨S36864, .f32⟩
  | 113 => ⟨S36864, .f32⟩
  | 114 => ⟨S_, .i32⟩
  | 115 => ⟨S_, .i32⟩
  | 116 => ⟨S36864, .f32⟩
  | 117 => ⟨S2000x4, .f32⟩
  | 118 => ⟨S2000, .i1⟩
  | 119 => ⟨S_, .i32⟩
  | 120 => ⟨S_, .i1⟩
  | 121 => ⟨S_, .i32⟩
  | 122 => ⟨S_, .i32⟩
  | 123 => ⟨S36864, .i32⟩
  | 124 => ⟨S_, .f32⟩
  | 125 => ⟨S_, .i32⟩
  | 126 => ⟨S_, .f32⟩
  | 127 => ⟨S_, .i32⟩
  | _ => ⟨S1x256x64x64, .f32⟩

abbrev hbmTy0_2 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S1, .f32⟩
  | 6 => ⟨S_, .f32⟩
  | 7 => ⟨S_, .f32⟩
  | 8 => ⟨S_, .i1⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S1x4, .f32⟩
  | 23 => ⟨S4, .f32⟩
  | 24 => ⟨S_, .f32⟩
  | 25 => ⟨S4, .f32⟩
  | 26 => ⟨S4, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S1, .i32⟩
  | 34 => ⟨S2000x4, .f32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S1, .i32⟩
  | 42 => ⟨S2000, .i1⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S1x4, .f32⟩
  | 57 => ⟨S4, .f32⟩
  | 58 => ⟨S1, .f32⟩
  | 59 => ⟨S_, .f32⟩
  | 60 => ⟨S36864, .f32⟩
  | 61 => ⟨S36864, .f32⟩
  | 62 => ⟨S1, .f32⟩
  | 63 => ⟨S_, .f32⟩
  | 64 => ⟨S36864, .f32⟩
  | 65 => ⟨S36864, .f32⟩
  | 66 => ⟨S1, .f32⟩
  | 67 => ⟨S_, .f32⟩
  | 68 => ⟨S36864, .f32⟩
  | 69 => ⟨S36864, .f32⟩
  | 70 => ⟨S1, .f32⟩
  | 71 => ⟨S_, .f32⟩
  | 72 => ⟨S36864, .f32⟩
  | 73 => ⟨S36864, .f32⟩
  | 74 => ⟨S36864, .f32⟩
  | 75 => ⟨S_, .f32⟩
  | 76 => ⟨S36864, .f32⟩
  | 77 => ⟨S36864, .f32⟩
  | 78 => ⟨S_, .f32⟩
  | 79 => ⟨S36864, .f32⟩
  | 80 => ⟨S36864, .f32⟩
  | 81 => ⟨S36864, .f32⟩
  | 82 => ⟨S_, .f32⟩
  | 83 => ⟨S36864, .f32⟩
  | 84 => ⟨S36864, .f32⟩
  | 85 => ⟨S_, .f32⟩
  | 86 => ⟨S36864, .f32⟩
  | 87 => ⟨S36864, .f32⟩
  | 88 => ⟨S36864, .f32⟩
  | 89 => ⟨S_, .i32⟩
  | 90 => ⟨S_, .i1⟩
  | 91 => ⟨S_, .i32⟩
  | 92 => ⟨S_, .i32⟩
  | 93 => ⟨S_, .i32⟩
  | 94 => ⟨S1, .f32⟩
  | 95 => ⟨S_, .f32⟩
  | 96 => ⟨S36864, .f32⟩
  | 97 => ⟨S36864, .f32⟩
  | 98 => ⟨S36864, .f32⟩
  | 99 => ⟨S36864, .f32⟩
  | 100 => ⟨S_, .f32⟩
  | 101 => ⟨S36864, .f32⟩
  | 102 => ⟨S36864, .i1⟩
  | 103 => ⟨S_, .f32⟩
  | 104 => ⟨S_, .f32⟩
  | 105 => ⟨S36864, .f32⟩
  | 106 => ⟨S36864, .f32⟩
  | 107 => ⟨S_, .i32⟩
  | 108 => ⟨S_, .i1⟩
  | 109 => ⟨S_, .i32⟩
  | 110 => ⟨S_, .i32⟩
  | 111 => ⟨S_, .i32⟩
  | 112 => ⟨S1, .i32⟩
  | 113 => ⟨S_, .f32⟩
  | 114 => ⟨S36864, .f32⟩
  | 115 => ⟨S_, .i32⟩
  | 116 => ⟨S_, .i32⟩
  | 117 => ⟨S_, .f32⟩
  | 118 => ⟨S2000, .f32⟩
  | _ => ⟨S1x256x64x64, .f32⟩

abbrev hbmTy (i : Nat) : BufTy := match i / 128 with
  | 0 => hbmTy0_0 i
  | 1 => hbmTy0_1 i
  | 2 => hbmTy0_2 i
  | _ => ⟨S1x256x64x64, .f32⟩

abbrev bufTy : (tb : Table) → Fin (tcTables nBuf tb) → BufTy
  | .hbm, ⟨i, _⟩ => hbmTy i
  | _, _ => ⟨S1x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call1_cst : Ref sig .tc := ⟨.hbm, 63, rfl⟩
abbrev main_call1_v0 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_1 : Ref sig .tc := ⟨.hbm, 80, rfl⟩
abbrev main_v66 : Ref sig .tc := ⟨.hbm, 81, rfl⟩
abbrev main_cst_2 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_3 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_c_4 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_c_5 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_6 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_7 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_cst_8 : Ref sig .tc := ⟨.hbm, 163, rfl⟩
abbrev main_call2_v0 : Ref sig .tc := ⟨.hbm, 164, rfl⟩
abbrev main_call2_v1 : Ref sig .tc := ⟨.hbm, 165, rfl⟩
abbrev main_call2_v2 : Ref sig .tc := ⟨.hbm, 166, rfl⟩
abbrev main_call2_v3 : Ref sig .tc := ⟨.hbm, 167, rfl⟩
abbrev main_v142 : Ref sig .tc := ⟨.hbm, 168, rfl⟩
abbrev main_v143 : Ref sig .tc := ⟨.hbm, 169, rfl⟩
abbrev main_cst_9 : Ref sig .tc := ⟨.hbm, 170, rfl⟩
abbrev main_call3_v0 : Ref sig .tc := ⟨.hbm, 171, rfl⟩
abbrev main_call3_v1 : Ref sig .tc := ⟨.hbm, 172, rfl⟩
abbrev main_call3_v2 : Ref sig .tc := ⟨.hbm, 173, rfl⟩
abbrev main_call3_v3 : Ref sig .tc := ⟨.hbm, 174, rfl⟩
abbrev main_v144 : Ref sig .tc := ⟨.hbm, 175, rfl⟩
abbrev main_cst_10 : Ref sig .tc := ⟨.hbm, 176, rfl⟩
abbrev main_call4_v0 : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_v145 : Ref sig .tc := ⟨.hbm, 181, rfl⟩
abbrev main_v146 : Ref sig .tc := ⟨.hbm, 182, rfl⟩
abbrev main_cst_11 : Ref sig .tc := ⟨.hbm, 183, rfl⟩
abbrev main_call5_v0 : Ref sig .tc := ⟨.hbm, 184, rfl⟩
abbrev main_call5_v1 : Ref sig .tc := ⟨.hbm, 185, rfl⟩
abbrev main_call5_v2 : Ref sig .tc := ⟨.hbm, 186, rfl⟩
abbrev main_call5_v3 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_12 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_13 : Ref sig .tc := ⟨.hbm, 199, rfl⟩
abbrev main_v157 : Ref sig .tc := ⟨.hbm, 200, rfl⟩
abbrev main_v158 : Ref sig .tc := ⟨.hbm, 201, rfl⟩
abbrev main_cst_14 : Ref sig .tc := ⟨.hbm, 202, rfl⟩
abbrev main_v159 : Ref sig .tc := ⟨.hbm, 203, rfl⟩
abbrev main_v160 : Ref sig .tc := ⟨.hbm, 204, rfl⟩
abbrev main_cst_15 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_cst_16 : Ref sig .tc := ⟨.hbm, 209, rfl⟩
abbrev main_call6_v0 : Ref sig .tc := ⟨.hbm, 210, rfl⟩
abbrev main_call6_v1 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_17 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_18 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_19 : Ref sig .tc := ⟨.hbm, 230, rfl⟩
abbrev main_v180 : Ref sig .tc := ⟨.hbm, 231, rfl⟩
abbrev main_c_20 : Ref sig .tc := ⟨.hbm, 232, rfl⟩
abbrev main_v181 : Ref sig .tc := ⟨.hbm, 233, rfl⟩
abbrev main_c_21 : Ref sig .tc := ⟨.hbm, 234, rfl⟩
abbrev main_c_22 : Ref sig .tc := ⟨.hbm, 235, rfl⟩
abbrev main_v182_0 : Ref sig .tc := ⟨.hbm, 236, rfl⟩
abbrev main_v182_1 : Ref sig .tc := ⟨.hbm, 237, rfl⟩
abbrev main_v182_2 : Ref sig .tc := ⟨.hbm, 238, rfl⟩
abbrev main_v182_3 : Ref sig .tc := ⟨.hbm, 239, rfl⟩
abbrev main_v182_4 : Ref sig .tc := ⟨.hbm, 240, rfl⟩
abbrev main_v182_5 : Ref sig .tc := ⟨.hbm, 241, rfl⟩
abbrev main_v182_6 : Ref sig .tc := ⟨.hbm, 242, rfl⟩
abbrev main_v182_7 : Ref sig .tc := ⟨.hbm, 243, rfl⟩
abbrev main_v182_8 : Ref sig .tc := ⟨.hbm, 244, rfl⟩
abbrev main_v182_9 : Ref sig .tc := ⟨.hbm, 245, rfl⟩
abbrev main_v182_10 : Ref sig .tc := ⟨.hbm, 246, rfl⟩
abbrev main_while0c_c_34 : Ref sig .tc := ⟨.hbm, 247, rfl⟩
abbrev main_while0c_v184 : Ref sig .tc := ⟨.hbm, 248, rfl⟩
abbrev main_while0b_c_34 : Ref sig .tc := ⟨.hbm, 249, rfl⟩
abbrev main_while0b_v184 : Ref sig .tc := ⟨.hbm, 250, rfl⟩
abbrev main_while0b_call7_v0 : Ref sig .tc := ⟨.hbm, 251, rfl⟩
abbrev main_while0b_call7_cst : Ref sig .tc := ⟨.hbm, 252, rfl⟩
abbrev main_while0b_call7_c : Ref sig .tc := ⟨.hbm, 253, rfl⟩
abbrev main_while0b_call7_v1_0 : Ref sig .tc := ⟨.hbm, 254, rfl⟩
abbrev main_while0b_v185 : Ref sig .tc := ⟨.hbm, 255, rfl⟩
abbrev main_while0b_c_35 : Ref sig .tc := ⟨.hbm, 256, rfl⟩
abbrev main_while0b_v186 : Ref sig .tc := ⟨.hbm, 257, rfl⟩
abbrev main_while0b_c_36 : Ref sig .tc := ⟨.hbm, 258, rfl⟩
abbrev main_while0b_v187 : Ref sig .tc := ⟨.hbm, 259, rfl⟩
abbrev main_while0b_v188 : Ref sig .tc := ⟨.hbm, 260, rfl⟩
abbrev main_while0b_v189 : Ref sig .tc := ⟨.hbm, 261, rfl⟩
abbrev main_while0b_v190 : Ref sig .tc := ⟨.hbm, 262, rfl⟩
abbrev main_while0b_cst_37 : Ref sig .tc := ⟨.hbm, 263, rfl⟩
abbrev main_while0b_v191 : Ref sig .tc := ⟨.hbm, 264, rfl⟩
abbrev main_while0b_c_38 : Ref sig .tc := ⟨.hbm, 265, rfl⟩
abbrev main_while0b_v192 : Ref sig .tc := ⟨.hbm, 266, rfl⟩
abbrev main_while0b_c_39 : Ref sig .tc := ⟨.hbm, 267, rfl⟩
abbrev main_while0b_v193 : Ref sig .tc := ⟨.hbm, 268, rfl⟩
abbrev main_while0b_v194 : Ref sig .tc := ⟨.hbm, 269, rfl⟩
abbrev main_while0b_c_40 : Ref sig .tc := ⟨.hbm, 270, rfl⟩
abbrev main_while0b_c_41 : Ref sig .tc := ⟨.hbm, 271, rfl⟩
abbrev main_while0b_v195 : Ref sig .tc := ⟨.hbm, 272, rfl⟩
abbrev main_while0b_c_42 : Ref sig .tc := ⟨.hbm, 273, rfl⟩
abbrev main_while0b_c_43 : Ref sig .tc := ⟨.hbm, 274, rfl⟩
abbrev main_while0b_v196 : Ref sig .tc := ⟨.hbm, 275, rfl⟩
abbrev main_while0b_c_44 : Ref sig .tc := ⟨.hbm, 276, rfl⟩
abbrev main_while0b_v197 : Ref sig .tc := ⟨.hbm, 277, rfl⟩
abbrev main_while0b_v198 : Ref sig .tc := ⟨.hbm, 278, rfl⟩
abbrev main_while0b_v199 : Ref sig .tc := ⟨.hbm, 279, rfl⟩
abbrev main_while0b_cst_45 : Ref sig .tc := ⟨.hbm, 280, rfl⟩
abbrev main_while0b_v200 : Ref sig .tc := ⟨.hbm, 281, rfl⟩
abbrev main_while0b_v201 : Ref sig .tc := ⟨.hbm, 282, rfl⟩
abbrev main_while0b_c_46 : Ref sig .tc := ⟨.hbm, 283, rfl⟩
abbrev main_while0b_v202 : Ref sig .tc := ⟨.hbm, 284, rfl⟩
abbrev main_while0b_c_47 : Ref sig .tc := ⟨.hbm, 285, rfl⟩
abbrev main_while0b_v203 : Ref sig .tc := ⟨.hbm, 286, rfl⟩
abbrev main_while0b_v204 : Ref sig .tc := ⟨.hbm, 287, rfl⟩
abbrev main_while0b_v205 : Ref sig .tc := ⟨.hbm, 288, rfl⟩
abbrev main_while0b_v206 : Ref sig .tc := ⟨.hbm, 289, rfl⟩
abbrev main_while0b_v207 : Ref sig .tc := ⟨.hbm, 290, rfl⟩
abbrev main_while0b_c_48 : Ref sig .tc := ⟨.hbm, 291, rfl⟩
abbrev main_while0b_v208 : Ref sig .tc := ⟨.hbm, 292, rfl⟩
abbrev main_while0b_c_49 : Ref sig .tc := ⟨.hbm, 293, rfl⟩
abbrev main_while0b_v209 : Ref sig .tc := ⟨.hbm, 294, rfl⟩
abbrev main_while0b_v210 : Ref sig .tc := ⟨.hbm, 295, rfl⟩
abbrev main_while0b_v211 : Ref sig .tc := ⟨.hbm, 296, rfl⟩
abbrev main_while0b_v212 : Ref sig .tc := ⟨.hbm, 297, rfl⟩
abbrev main_while0b_v213 : Ref sig .tc := ⟨.hbm, 298, rfl⟩
abbrev main_while0b_c_50 : Ref sig .tc := ⟨.hbm, 299, rfl⟩
abbrev main_while0b_v214 : Ref sig .tc := ⟨.hbm, 300, rfl⟩
abbrev main_while0b_c_51 : Ref sig .tc := ⟨.hbm, 301, rfl⟩
abbrev main_while0b_v215 : Ref sig .tc := ⟨.hbm, 302, rfl⟩
abbrev main_while0b_v216 : Ref sig .tc := ⟨.hbm, 303, rfl⟩
abbrev main_while0b_c_52 : Ref sig .tc := ⟨.hbm, 304, rfl⟩
abbrev main_while0b_c_53 : Ref sig .tc := ⟨.hbm, 305, rfl⟩
abbrev main_while0b_v217 : Ref sig .tc := ⟨.hbm, 306, rfl⟩
abbrev main_while0b_c_54 : Ref sig .tc := ⟨.hbm, 307, rfl⟩
abbrev main_while0b_c_55 : Ref sig .tc := ⟨.hbm, 308, rfl⟩
abbrev main_while0b_v218 : Ref sig .tc := ⟨.hbm, 309, rfl⟩
abbrev main_while0b_c_56 : Ref sig .tc := ⟨.hbm, 310, rfl⟩
abbrev main_while0b_v219 : Ref sig .tc := ⟨.hbm, 311, rfl⟩
abbrev main_while0b_v220 : Ref sig .tc := ⟨.hbm, 312, rfl⟩
abbrev main_while0b_v221 : Ref sig .tc := ⟨.hbm, 313, rfl⟩
abbrev main_while0b_v222 : Ref sig .tc := ⟨.hbm, 314, rfl⟩
abbrev main_while0b_v223 : Ref sig .tc := ⟨.hbm, 315, rfl⟩
abbrev main_while0b_v224 : Ref sig .tc := ⟨.hbm, 316, rfl⟩
abbrev main_while0b_v225 : Ref sig .tc := ⟨.hbm, 317, rfl⟩
abbrev main_while0b_v226 : Ref sig .tc := ⟨.hbm, 318, rfl⟩
abbrev main_while0b_v227 : Ref sig .tc := ⟨.hbm, 319, rfl⟩
abbrev main_while0b_v228 : Ref sig .tc := ⟨.hbm, 320, rfl⟩
abbrev main_while0b_v229 : Ref sig .tc := ⟨.hbm, 321, rfl⟩
abbrev main_while0b_v230 : Ref sig .tc := ⟨.hbm, 322, rfl⟩
abbrev main_while0b_v231 : Ref sig .tc := ⟨.hbm, 323, rfl⟩
abbrev main_while0b_v232 : Ref sig .tc := ⟨.hbm, 324, rfl⟩
abbrev main_while0b_v233 : Ref sig .tc := ⟨.hbm, 325, rfl⟩
abbrev main_while0b_v234 : Ref sig .tc := ⟨.hbm, 326, rfl⟩
abbrev main_while0b_v235 : Ref sig .tc := ⟨.hbm, 327, rfl⟩
abbrev main_while0b_v236 : Ref sig .tc := ⟨.hbm, 328, rfl⟩
abbrev main_while0b_v237 : Ref sig .tc := ⟨.hbm, 329, rfl⟩
abbrev main_while0b_v238 : Ref sig .tc := ⟨.hbm, 330, rfl⟩
abbrev main_while0b_cst_57 : Ref sig .tc := ⟨.hbm, 331, rfl⟩
abbrev main_while0b_v239 : Ref sig .tc := ⟨.hbm, 332, rfl⟩
abbrev main_while0b_v240 : Ref sig .tc := ⟨.hbm, 333, rfl⟩
abbrev main_while0b_cst_58 : Ref sig .tc := ⟨.hbm, 334, rfl⟩
abbrev main_while0b_v241 : Ref sig .tc := ⟨.hbm, 335, rfl⟩
abbrev main_while0b_v242 : Ref sig .tc := ⟨.hbm, 336, rfl⟩
abbrev main_while0b_v243 : Ref sig .tc := ⟨.hbm, 337, rfl⟩
abbrev main_while0b_cst_59 : Ref sig .tc := ⟨.hbm, 338, rfl⟩
abbrev main_while0b_v244 : Ref sig .tc := ⟨.hbm, 339, rfl⟩
abbrev main_while0b_v245 : Ref sig .tc := ⟨.hbm, 340, rfl⟩
abbrev main_while0b_cst_60 : Ref sig .tc := ⟨.hbm, 341, rfl⟩
abbrev main_while0b_v246 : Ref sig .tc := ⟨.hbm, 342, rfl⟩
abbrev main_while0b_v247 : Ref sig .tc := ⟨.hbm, 343, rfl⟩
abbrev main_while0b_v248 : Ref sig .tc := ⟨.hbm, 344, rfl⟩
abbrev main_while0b_c_61 : Ref sig .tc := ⟨.hbm, 345, rfl⟩
abbrev main_while0b_v249 : Ref sig .tc := ⟨.hbm, 346, rfl⟩
abbrev main_while0b_c_62 : Ref sig .tc := ⟨.hbm, 347, rfl⟩
abbrev main_while0b_v250 : Ref sig .tc := ⟨.hbm, 348, rfl⟩
abbrev main_while0b_v251 : Ref sig .tc := ⟨.hbm, 349, rfl⟩
abbrev main_while0b_v252 : Ref sig .tc := ⟨.hbm, 350, rfl⟩
abbrev main_while0b_v253 : Ref sig .tc := ⟨.hbm, 351, rfl⟩
abbrev main_while0b_v254 : Ref sig .tc := ⟨.hbm, 352, rfl⟩
abbrev main_while0b_v255 : Ref sig .tc := ⟨.hbm, 353, rfl⟩
abbrev main_while0b_v256 : Ref sig .tc := ⟨.hbm, 354, rfl⟩
abbrev main_while0b_v257 : Ref sig .tc := ⟨.hbm, 355, rfl⟩
abbrev main_while0b_cst_63 : Ref sig .tc := ⟨.hbm, 356, rfl⟩
abbrev main_while0b_v258 : Ref sig .tc := ⟨.hbm, 357, rfl⟩
abbrev main_while0b_v259 : Ref sig .tc := ⟨.hbm, 358, rfl⟩
abbrev main_while0b_cst_64 : Ref sig .tc := ⟨.hbm, 359, rfl⟩
abbrev main_while0b_call9_v0 : Ref sig .tc := ⟨.hbm, 360, rfl⟩
abbrev main_while0b_call9_v1 : Ref sig .tc := ⟨.hbm, 361, rfl⟩
abbrev main_while0b_v260 : Ref sig .tc := ⟨.hbm, 362, rfl⟩
abbrev main_while0b_c_65 : Ref sig .tc := ⟨.hbm, 363, rfl⟩
abbrev main_while0b_v261 : Ref sig .tc := ⟨.hbm, 364, rfl⟩
abbrev main_while0b_c_66 : Ref sig .tc := ⟨.hbm, 365, rfl⟩
abbrev main_while0b_v262 : Ref sig .tc := ⟨.hbm, 366, rfl⟩
abbrev main_while0b_v263 : Ref sig .tc := ⟨.hbm, 367, rfl⟩
abbrev main_while0b_v264 : Ref sig .tc := ⟨.hbm, 368, rfl⟩
abbrev main_while0b_cst_67 : Ref sig .tc := ⟨.hbm, 369, rfl⟩
abbrev main_while0b_v265 : Ref sig .tc := ⟨.hbm, 370, rfl⟩
abbrev main_while0b_c_68 : Ref sig .tc := ⟨.hbm, 371, rfl⟩
abbrev main_while0b_v266 : Ref sig .tc := ⟨.hbm, 372, rfl⟩
abbrev main_cst_23 : Ref sig .tc := ⟨.hbm, 373, rfl⟩
abbrev main_v183 : Ref sig .tc := ⟨.hbm, 374, rfl⟩

abbrev nD : Nat := 1
abbrev τ : Topo := Topo.v7x

variable {F : FTy → Type} [FloatOps F]

abbrev main_while0_count : Scf.Loop 32 := ⟨0#32, 2000#32, 1#32⟩
-- ==== Proof.KernelIdeal.ConvRegion.lean ====
/-
  The convolution's kernel region: nine grid points, one per tap of the 3×3 window. A point adds its tap's product to the
  accumulator, which the first point clears and the last one offsets by the bias and rectifies. This file says what the
  accumulator holds after every point and proves that the kernel leaves it there.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.VecWindow
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.Proof.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the kernel leaves in the accumulator at point `n`, from what it found there, the tap's image and weight
    blocks and the bias. -/
def step (n : ℕ) (a : Vec F S4096x256 .f32) (x : Vec F S1x4096x256 .f32) (w : Vec F S1x256x256 .f32) (b : Vec F S1x256 .f32) :
    Vec F S4096x256 .f32 :=
  if n = 0 then k0_pay2 k0_pay1 x w
  else if n = 8 then k0_pay3 (k0_pay2 a x w) b
  else k0_pay2 a x w

variable (𝒱₀ : Variants)

section Cases

/-- The kernel's test for its first point fails at the other points. -/
theorem first_point : ∀ n : Fin 9, n.val ≠ 0 →
    ¬ Scalar.cmpi .ne (Scalar.extui (Scalar.cmpi .eq (BitVec.ofNat 32 n.val) 0#32) : BitVec 32) 0#32 = 1#1 := by decide

/-- The kernel's test for its last point fails at the other points. -/
theorem last_point : ∀ n : Fin 9, n.val ≠ 8 →
    ¬ Scalar.cmpi .ne (Scalar.extui (Scalar.cmpi .eq (BitVec.ofNat 32 n.val) 8#32) : BitVec 32) 0#32 = 1#1 := by decide

variable (c : Dev nD) (i : grid0.Coords) (arg1 : Memref sig .tc .vmem S1x4096x256 .f32) (harg1 : arg1.IsWhole)
  (arg2 : Memref sig .tc .vmem S1x256x256 .f32) (harg2 : arg2.IsWhole) (arg3 : Memref sig .tc .vmem S1x256 .f32) (harg3 : arg3.IsWhole)
  (arg4 : Memref sig .tc .vmem S4096x256 .f32) (harg4 : arg4.IsWhole)
  (x : Vec F S1x4096x256 .f32) (w : Vec F S1x256x256 .f32) (b : Vec F S1x256 .f32)

/-- The kernel at a grid point leaves the accumulator at `step` of what it found, its inputs as they were. -/
theorem run (n : ℕ) (hn : (i 0).val = n) (a : Vec F S4096x256 .f32) (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare a
        ∗ (iprop(owns (c : Thread nD τ) arg1 fullShare x ∗ owns (c : Thread nD τ) arg2 fullShare w ∗ owns (c : Thread nD τ) arg3 fullShare b
            ∗ owns (c : Thread nD τ) arg4 fullShare (step n a x w b)) -∗ K ⟨⟩))
      ⊢ wp frame (wpE (defs₀ (F := F)) 𝒱₀ c none) E (cc0__conv3x3_kernel i arg1 harg1 arg2 harg2 arg3 harg3 arg4 harg4) K := by
  simp only [cc0__conv3x3_kernel_eq_skeleton]; unfold cc0__conv3x3_kernel_skel
  have h8 : (i 0).val < 9 := (i 0).isLt
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  rcases Nat.eq_zero_or_pos n with h0 | hpos
  · have e1 : Scalar.cmpi .ne (Scalar.extui (Scalar.cmpi .eq (BitVec.ofNat 32 (i 0).val) 0#32) : BitVec 32) 0#32 = 1#1 := by rw [hn, h0]; decide
    have e2 : ¬ Scalar.cmpi .ne (Scalar.extui (Scalar.cmpi .eq (BitVec.ofNat 32 (i 0).val) 8#32) : BitVec 32) 0#32 = 1#1 := by rw [hn, h0]; decide
    sl_exec (disch := first | exact e1 | exact e2)
    sl_step
    iapply Hk
    isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    iexists _; isplitr
    swap; · iexact H4
    ipureintro
    rw [step, if_pos h0, View.read_writes_full, View.readAt_full, View.readAt_full, harg1.read_unread, harg2.read_unread]
    unfold run.sl.v3 run.sl.H4_1
    rw [View.readCov_full]
  · have e1 : ¬ Scalar.cmpi .ne (Scalar.extui (Scalar.cmpi .eq (BitVec.ofNat 32 (i 0).val) 0#32) : BitVec 32) 0#32 = 1#1 := by
      rw [hn] at h8 ⊢
      exact first_point ⟨n, h8⟩ hpos.ne'
    by_cases hl : n = 8
    · have e2 : Scalar.cmpi .ne (Scalar.extui (Scalar.cmpi .eq (BitVec.ofNat 32 (i 0).val) 8#32) : BitVec 32) 0#32 = 1#1 := by rw [hn, hl]; decide
      sl_exec (disch := first | exact e1 | exact e2)
      sl_step
      iapply Hk
      isplitl [H1]; · iexists _; isplitr; · ipureintro; exact harg1.read_unread _
                      iexact H1
      isplitl [H2]; · iexists _; isplitr; · ipureintro; exact harg2.read_unread _
                      iexact H2
      isplitl [H3]; · iexists _; isplitr; · ipureintro; exact harg3.read_unread _
                      iexact H3
      iexists _; isplitr
      swap; · iexact H4
      ipureintro
      rw [step, if_neg (by omega), if_pos hl, View.read_writes_full, View.readAt_full, harg3.read_unread]
      unfold run.sl.v15 run.sl.H4_1_1
      rw [View.readCov_full, View.readAt_full, View.readAt_full, View.readAt_full, harg1.read_unread, harg2.read_unread, harg4.read_unread]
    · have e2 : ¬ Scalar.cmpi .ne (Scalar.extui (Scalar.cmpi .eq (BitVec.ofNat 32 (i 0).val) 8#32) : BitVec 32) 0#32 = 1#1 := by
        rw [hn] at h8 ⊢
        exact last_point ⟨n, h8⟩ hl
      sl_exec (disch := first | exact e1 | exact e2)
      sl_step
      iapply Hk
      isplitl [H1]; · iexists _; isplitr; · ipureintro; exact harg1.read_unread _
                      iexact H1
      isplitl [H2]; · iexists _; isplitr; · ipureintro; exact harg2.read_unread _
                      iexact H2
      isplitl [H3]; · iexists _; isplitr; · ipureintro; exact harg3.read_unread _
                      iexact H3
      iexists _; isplitr
      swap; · iexact H4
      ipureintro
      rw [step, if_neg (by omega), if_neg hl, View.read_writes_full, View.readAt_full, View.readAt_full, View.readAt_full,
        harg1.read_unread, harg2.read_unread, harg4.read_unread]

end Cases

/-! ## The region's proof data -/

variable (V : (c : Dev nD) → (b : Ref sig .tc) → Buf (Elt F) ((c : Thread nD τ).loc b))

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `n`-th grid point. -/
def pt (n : ℕ) : Fin cfg0.N := ⟨n % 9, by rw [show cfg0.N = 9 from N_0]; omega⟩

theorem lt_nine (t : Fin cfg0.N) : t.val < 9 := lt_of_lt_of_eq t.isLt N_0

theorem pt_val (t : Fin cfg0.N) : pt t.val = t :=
  Fin.ext (Nat.mod_eq_of_lt (lt_nine t))

/-- The accumulator after the points up to the `n`-th. -/
def acc (c : Dev nD) : ℕ → Vec F S4096x256 .f32
  | 0 => k0_pay2 k0_pay1 (iblk V c 0 (pt 0)) (iblk V c 1 (pt 0))
  | n + 1 => step (n + 1) (acc c n) (iblk V c 0 (pt (n + 1))) (iblk V c 1 (pt (n + 1))) (iblk V c 2 (pt (n + 1)))

/-- What the region holds throughout: its scratch space, which this kernel leaves alone, and the generator register. -/
def ΦK (c : Dev nD) : sProp 𝕄 :=
  iprop(Pipeline.scopedRest (Ix := Unit) (Name := ℕ) (U := UR sig nD τ) (Lvl := ℕ) (Val := Elt F) spec0 c ∗ ∃ r, prngReg c r)

/-- The region's proof data: the arrays as found; after a point the inputs' blocks as they were and the accumulator. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => acc V c t.val
    | ⟨_ + 4, h⟩ => absurd h (Nat.not_lt.2 (Nat.le_add_left _ _))
  Φ _ := ΦK (F := F) c
  q _ := fullShare
  owed _ := 0

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = acc V c t.val := by dsimp only [dat]

/-- An input's staging buffer holds its block at every point, fetched there or kept from the point before. -/
theorem before_0 (c : Dev nD) (t : Fin cfg0.N) (d) : (dat V c).before 0 t d = iblk V c 0 t :=
  (dat V c).before_in_eq_fetched 0 rfl (fun _ => rfl) (fun _ _ _ => rfl) (fun t => after_0 V c t) t d
theorem before_1 (c : Dev nD) (t : Fin cfg0.N) (d) : (dat V c).before 1 t d = iblk V c 1 t :=
  (dat V c).before_in_eq_fetched 1 rfl (fun _ => rfl) (fun _ _ _ => rfl) (fun t => after_1 V c t) t d
theorem before_2 (c : Dev nD) (t : Fin cfg0.N) (d) : (dat V c).before 2 t d = iblk V c 2 t :=
  (dat V c).before_in_eq_fetched 2 rfl (fun _ => rfl) (fun _ _ _ => rfl) (fun t => after_2 V c t) t d

/-- The accumulator is kept from one point to the next. -/
theorem before_3 (c : Dev nD) (t : Fin cfg0.N) (ht : t.val ≠ 0) (d) : (dat V c).before 3 t d = acc V c (t.val - 1) := by
  have hlt : t.val < 9 := lt_nine t
  rw [(dat V c).before_out_kept 3 rfl t ht (by
    cases hf : (cfg0.win 3).flush ⟨t.val - 1, Nat.lt_of_le_of_lt (Nat.sub_le _ _) t.isLt⟩
    · rfl
    · have := (flush0_3 _).mp hf; dsimp only at this; omega) (fun _ => rfl) (fun _ _ => rfl) d, after_3]

/-- The point's coordinate is its number. -/
theorem coords_val (t : Fin cfg0.N) : (grid0.coords t 0).val = t.val := by
  rcases fin_N0 t with rfl | rfl | rfl | rfl | rfl | rfl | rfl | rfl | rfl <;> decide

/-- What the body obligation hands the kernel at a point, and what it returns. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))
@[inherit_doc bodyPre] def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The kernel at a point, from the blocks and the accumulator so far, leaves the accumulator one tap further. -/
theorem sound_body (c : Dev nD) (t : Fin cfg0.N) :
    bodyPre V c t ⊢ wp frame (wpE (defs₀ (F := F)) 𝒱₀ c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Ho, ⟨%d0, H0⟩, ⟨%d1, H1⟩, ⟨%d2, H2⟩, ⟨%d3, H3⟩⟩
  have hstep : step t.val ((dat V c).before 3 t d3) (iblk V c 0 t) (iblk V c 1 t) (iblk V c 2 t) = acc V c t.val := by
    have hp := pt_val t
    rcases t with ⟨_ | n, hn⟩
    · rw [step, if_pos rfl]; rw [show acc V c 0 = _ from rfl]; rw [acc, hp]
    · rw [before_3 V c _ (Nat.succ_ne_zero n)]; show _ = acc V c (n + 1); rw [acc, hp]; rfl
  rw [← hstep]
  iapply (run 𝒱₀ c (grid0.coords t) _ _ _ _ _ _ _ _ (iblk V c 0 t) (iblk V c 1 t) (iblk V c 2 t) t.val (coords_val t) ((dat V c).before 3 t d3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at a point is the kernel there. -/
theorem defs₀_row (t : Fin cfg0.N) :
    defs₀ (F := F) .tc cfg0.body (cfg0.bodyArgs t (cfg0.slots t)) = bodyAt0 t := by
  unfold defs₀; rw [Defs.onTc_tc]

/-- The kernel meets its obligation at every point. -/
theorem body_obligation (c : Dev nD) : BodyObligation (dat V c) (defs₀ (F := F)) 𝒱₀ () Set.univ := fun t => by
  rw [bigSep_W0, bigSep_W0, defs₀_row]
  exact triple_restated (sound_body 𝒱₀ V c t) rfl .rfl fun _ => .rfl

end Cert.Proof.KernelIdeal.Conv

end
-- ==== Proof.KernelIdeal.HeadsRegion.lean ====
/-
  The heads' kernel region: one grid point, which forms both heads' products, decodes every anchor's box, clips it to the
  image and scores it. This file says what each of its eight outputs holds and proves that the kernel leaves that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.VecWindow
public import Idealize.ShloMosaic.Lib.WholeRead
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.Proof.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The image size at a position of its two-word memory. -/
abbrev word (x0 : Vec F S2 .i32) (i : Fin 2) : Elt F .i32 := x0 (fun a => ⟨i.val, by fin_cases a; exact i.isLt⟩)

section Values

variable (x0 : Vec F S2 .i32) (x1 : Vec F S4096x256 .f32) (x2 : Vec F S256x36 .f32) (x3 : Vec F S256x18 .f32)
  (x4 : Vec F S1x36 .f32) (x5 : Vec F S1x18 .f32) (x6 x7 x8 x9 : Vec F S4096x9 .f32)

/-- The localisation head: features times weights plus bias. -/
def outLocs : Vec F S4096x36 .f32 := k1_pay6 x1 x2 x4
/-- The score head. -/
def outScores : Vec F S4096x18 .f32 := k1_pay7 x1 x3 x5
/-- The boxes' left edges, clipped. -/
def outX1 : Vec F S4096x9 .f32 := k1_pay19 (k1_pay9 x1 x2 x4) (k1_pay13 x6) (word x0 1)
/-- The boxes' upper edges, clipped. -/
def outY1 : Vec F S4096x9 .f32 := k1_pay21 (k1_pay10 x1 x2 x4) (k1_pay14 x7) (word x0 0)
/-- The boxes' right edges, clipped. -/
def outX2 : Vec F S4096x9 .f32 := k1_pay20 (k1_pay9 x1 x2 x4) (k1_pay11 x1 x2 x4) (k1_pay13 x6) x8 (word x0 1)
/-- The boxes' lower edges, clipped. -/
def outY2 : Vec F S4096x9 .f32 := k1_pay22 (k1_pay10 x1 x2 x4) (k1_pay12 x1 x2 x4) (k1_pay14 x7) x9 (word x0 0)
/-- The boxes' areas. -/
def outArea : Vec F S4096x9 .f32 := k1_pay3 (outX1 x0 x1 x2 x4 x6) (outX2 x0 x1 x2 x4 x6 x8) (outY1 x0 x1 x2 x4 x7) (outY2 x0 x1 x2 x4 x7 x9)
/-- The foreground scores, with minus infinity where a box is too small. -/
def outFg : Vec F S4096x9 .f32 :=
  k1_pay4 (k1_pay8 x1 x3 x5) (outX1 x0 x1 x2 x4 x6) (outX2 x0 x1 x2 x4 x6 x8) (outY1 x0 x1 x2 x4 x7) (outY2 x0 x1 x2 x4 x7 x9)

end Values

section Buffers

variable {sp : Space} {sh : Shape} {e : EltTy} {m : Memref sig .tc sp sh e}

/-- A whole buffer is owned at `x` when it holds the contents that read `x`. -/
theorem owns_whole (c : Dev nD) (h : m.IsWhole) (x : sh.Idx → Elt F e) :
    owns (c : Thread nD τ) m fullShare x = (m.view.loc (c : Thread nD τ) ↦[m.view.set]{fullShare} h.unread x : sProp 𝕄) := by
  have h1 : owns (c : Thread nD τ) m fullShare x ⊢ (m.view.loc (c : Thread nD τ) ↦[m.view.set]{fullShare} h.unread x : sProp 𝕄) := by
    unfold owns
    iintro ⟨%f, %hf, H⟩
    obtain rfl := h.eq_unread hf
    iexact H
  have h2 : (m.view.loc (c : Thread nD τ) ↦[m.view.set]{fullShare} h.unread x : sProp 𝕄) ⊢ owns (c : Thread nD τ) m fullShare x := by
    unfold owns
    iintro H; iexists _; isplitr; · ipureintro; exact h.read_unread _
    iexact H
  exact Entails.antisymm h1 h2

/-- A whole buffer at the contents that read `x`, loaded whole, gives `x`. -/
theorem load_whole (h : m.IsWhole) (x : sh.Idx → Elt F e) {off : Fin sh.rank → ℕ} (inb : ∀ a, off a + sh.size a ≤ sh.size a) :
    View.readAt (Elt F) m.view (Rect.unit off sh.size inb).toLoadRect (h.unread x) = x := by
  rw [View.readAt_full, h.read_unread]

end Buffers

variable (𝒱₀ : Variants)

section Run

variable (c : Dev nD)
  (arg0 : Memref sig .tc .smem S2 .i32) (harg0 : arg0.IsWhole) (arg1 : Memref sig .tc .vmem S4096x256 .f32) (harg1 : arg1.IsWhole)
  (arg2 : Memref sig .tc .vmem S256x36 .f32) (harg2 : arg2.IsWhole) (arg3 : Memref sig .tc .vmem S256x18 .f32) (harg3 : arg3.IsWhole)
  (arg4 : Memref sig .tc .vmem S1x36 .f32) (harg4 : arg4.IsWhole) (arg5 : Memref sig .tc .vmem S1x18 .f32) (harg5 : arg5.IsWhole)
  (arg6 : Memref sig .tc .vmem S4096x9 .f32) (harg6 : arg6.IsWhole) (arg7 : Memref sig .tc .vmem S4096x9 .f32) (harg7 : arg7.IsWhole)
  (arg8 : Memref sig .tc .vmem S4096x9 .f32) (harg8 : arg8.IsWhole) (arg9 : Memref sig .tc .vmem S4096x9 .f32) (harg9 : arg9.IsWhole)
  (arg10 : Memref sig .tc .vmem S4096x36 .f32) (harg10 : arg10.IsWhole)
  (arg11 : Memref sig .tc .vmem S4096x18 .f32) (harg11 : arg11.IsWhole)
  (arg12 : Memref sig .tc .vmem S4096x9 .f32) (harg12 : arg12.IsWhole) (arg13 : Memref sig .tc .vmem S4096x9 .f32) (harg13 : arg13.IsWhole)
  (arg14 : Memref sig .tc .vmem S4096x9 .f32) (harg14 : arg14.IsWhole) (arg15 : Memref sig .tc .vmem S4096x9 .f32) (harg15 : arg15.IsWhole)
  (arg16 : Memref sig .tc .vmem S4096x9 .f32) (harg16 : arg16.IsWhole) (arg17 : Memref sig .tc .vmem S4096x9 .f32) (harg17 : arg17.IsWhole)
  (x0 : Vec F S2 .i32) (x1 : Vec F S4096x256 .f32) (x2 : Vec F S256x36 .f32) (x3 : Vec F S256x18 .f32)
  (x4 : Vec F S1x36 .f32) (x5 : Vec F S1x18 .f32) (x6 x7 x8 x9 : Vec F S4096x9 .f32)
  (o10 : Vec F S4096x36 .f32) (o11 : Vec F S4096x18 .f32) (o12 o13 o14 o15 o16 o17 : Vec F S4096x9 .f32)

set_option maxHeartbeats 4000000 in
/-- The kernel leaves its eight outputs at the values above and its inputs as they were. -/
theorem run (E : Set ℕ) (K : PUnit → sProp 𝕄) :
    iprop(owns (c : Thread nD τ) arg0 fullShare x0 ∗ owns (c : Thread nD τ) arg1 fullShare x1 ∗ owns (c : Thread nD τ) arg2 fullShare x2 ∗
    owns (c : Thread nD τ) arg3 fullShare x3 ∗ owns (c : Thread nD τ) arg4 fullShare x4 ∗ owns (c : Thread nD τ) arg5 fullShare x5 ∗
    owns (c : Thread nD τ) arg6 fullShare x6 ∗ owns (c : Thread nD τ) arg7 fullShare x7 ∗ owns (c : Thread nD τ) arg8 fullShare x8 ∗
    owns (c : Thread nD τ) arg9 fullShare x9 ∗ owns (c : Thread nD τ) arg10 fullShare o10 ∗ owns (c : Thread nD τ) arg11 fullShare o11 ∗
    owns (c : Thread nD τ) arg12 fullShare o12 ∗ owns (c : Thread nD τ) arg13 fullShare o13 ∗ owns (c : Thread nD τ) arg14 fullShare o14 ∗
    owns (c : Thread nD τ) arg15 fullShare o15 ∗ owns (c : Thread nD τ) arg16 fullShare o16 ∗ owns (c : Thread nD τ) arg17 fullShare o17
        ∗ (iprop(owns (c : Thread nD τ) arg0 fullShare x0 ∗ owns (c : Thread nD τ) arg1 fullShare x1 ∗ owns (c : Thread nD τ) arg2 fullShare x2 ∗
      owns (c : Thread nD τ) arg3 fullShare x3 ∗ owns (c : Thread nD τ) arg4 fullShare x4 ∗ owns (c : Thread nD τ) arg5 fullShare x5 ∗
      owns (c : Thread nD τ) arg6 fullShare x6 ∗ owns (c : Thread nD τ) arg7 fullShare x7 ∗ owns (c : Thread nD τ) arg8 fullShare x8 ∗
      owns (c : Thread nD τ) arg9 fullShare x9 ∗ owns (c : Thread nD τ) arg10 fullShare (outLocs x1 x2 x4) ∗
      owns (c : Thread nD τ) arg11 fullShare (outScores x1 x3 x5) ∗ owns (c : Thread nD τ) arg12 fullShare (outX1 x0 x1 x2 x4 x6) ∗
      owns (c : Thread nD τ) arg13 fullShare (outY1 x0 x1 x2 x4 x7) ∗ owns (c : Thread nD τ) arg14 fullShare (outX2 x0 x1 x2 x4 x6 x8) ∗
      owns (c : Thread nD τ) arg15 fullShare (outY2 x0 x1 x2 x4 x7 x9) ∗
      owns (c : Thread nD τ) arg16 fullShare (outArea x0 x1 x2 x4 x6 x7 x8 x9) ∗
      owns (c : Thread nD τ) arg17 fullShare (outFg x0 x1 x2 x3 x4 x5 x6 x7 x8 x9)) -∗ K ⟨⟩))
      ⊢ wp frame (wpE (defs₀ (F := F)) 𝒱₀ c none) E (cc1__heads_decode_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__heads_decode_kernel_eq_skeleton]; unfold cc1__heads_decode_kernel_skel
  simp only [k1_part1_eq_skeleton, k1_part2_eq_skeleton]
  rw [owns_whole c harg0 x0, owns_whole c harg1 x1, owns_whole c harg2 x2, owns_whole c harg3 x3, owns_whole c harg4 x4,
    owns_whole c harg5 x5, owns_whole c harg6 x6, owns_whole c harg7 x7, owns_whole c harg8 x8, owns_whole c harg9 x9,
    owns_whole c harg10 o10, owns_whole c harg11 o11, owns_whole c harg12 o12, owns_whole c harg13 o13, owns_whole c harg14 o14,
    owns_whole c harg15 o15, owns_whole c harg16 o16, owns_whole c harg17 o17]
  iintro ⟨H0, H1, H2, H3, H4, H5, H6, H7, H8, H9, H10, H11, H12, H13, H14, H15, H16, H17, Hk⟩
  sl_exec
  sl_step
  iapply Hk
  have w1 : run.sl.r_7 arg0 harg0 x0 = word x0 1 := by
    unfold run.sl.r_7
    rw [harg0.readAt_unread]
    exact congrArg x0 (funext fun a => Fin.ext (by fin_cases a; rfl))
  have w0 : run.sl.r_8 arg0 harg0 x0 = word x0 0 := by
    unfold run.sl.r_8
    rw [harg0.readAt_unread]
    exact congrArg x0 (funext fun a => Fin.ext (by fin_cases a; rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; rw [View.read_writes_full]; unfold outLocs
    rw [load_whole harg1 x1, load_whole harg2 x2, load_whole harg4 x4]
  isplitl [H11]
  · unfold owns; iexists _; isplitr
    swap; · iexact H11
    ipureintro; rw [View.read_writes_full]; unfold outScores
    rw [load_whole harg1 x1, load_whole harg3 x3, load_whole harg5 x5]
  isplitl [H12]
  · unfold owns; iexists _; isplitr
    swap; · iexact H12
    ipureintro; rw [View.read_writes_full]; delta run.sl.r_1 run.sl.r_5
    unfold outX1
    rw [w1, load_whole harg1 x1, load_whole harg2 x2, load_whole harg4 x4, load_whole harg6 x6]
  isplitl [H13]
  · unfold owns; iexists _; isplitr
    swap; · iexact H13
    ipureintro; rw [View.read_writes_full]; delta run.sl.r_2 run.sl.r_6
    unfold outY1
    rw [w0, load_whole harg1 x1, load_whole harg2 x2, load_whole harg4 x4, load_whole harg7 x7]
  isplitl [H14]
  · unfold owns; iexists _; isplitr
    swap; · iexact H14
    ipureintro; rw [View.read_writes_full]; delta run.sl.r_10 run.sl.r_1 run.sl.r_3 run.sl.r_5
    unfold outX2
    rw [w1, load_whole harg1 x1, load_whole harg2 x2, load_whole harg4 x4, load_whole harg6 x6, load_whole harg8 x8]
  isplitl [H15]
  · unfold owns; iexists _; isplitr
    swap; · iexact H15
    ipureintro; rw [View.read_writes_full]; delta run.sl.r_12 run.sl.r_2 run.sl.r_4 run.sl.r_6
    unfold outY2
    rw [w0, load_whole harg1 x1, load_whole harg2 x2, load_whole harg4 x4, load_whole harg7 x7, load_whole harg9 x9]
  isplitl [H16]
  · unfold owns; iexists _; isplitr
    swap; · iexact H16
    ipureintro; rw [View.read_writes_full]; delta run.sl.r_9 run.sl.r_10 run.sl.r_11 run.sl.r_12 run.sl.r_1 run.sl.r_2 run.sl.r_3 run.sl.r_4 run.sl.r_5 run.sl.r_6
    unfold outArea outX1 outX2 outY1 outY2
    rw [w1, w0, load_whole harg1 x1, load_whole harg2 x2, load_whole harg4 x4, load_whole harg6 x6, load_whole harg7 x7, load_whole harg8 x8, load_whole harg9 x9]
  unfold owns; iexists _; isplitr
  swap; · iexact H17
  ipureintro; rw [View.read_writes_full]; delta run.sl.r_9 run.sl.r_10 run.sl.r_11 run.sl.r_12 run.sl.r run.sl.r_1 run.sl.r_2 run.sl.r_3 run.sl.r_4 run.sl.r_5 run.sl.r_6
  unfold outFg outX1 outX2 outY1 outY2
  rw [w1, w0, load_whole harg1 x1, load_whole harg2 x2, load_whole harg3 x3, load_whole harg4 x4, load_whole harg5 x5, load_whole harg6 x6, load_whole harg7 x7, load_whole harg8 x8, load_whole harg9 x9]

end Run

/-! ## The region's proof data -/

variable (V : (c : Dev nD) → (b : Ref sig .tc) → Buf (Elt F) ((c : Thread nD τ).loc b))

/-- A window's block at a point, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the region holds throughout: its scratch space, which this kernel leaves alone, and the generator register. -/
def ΦK (c : Dev nD) : sProp 𝕄 :=
  iprop(Pipeline.scopedRest (Ix := Unit) (Name := ℕ) (U := UR sig nD τ) (Lvl := ℕ) (Val := Elt F) spec1 c ∗ ∃ r, prngReg c r)

/-- The region's proof data: the arrays as found; after the point the inputs' blocks as they were and the eight outputs. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => outLocs (iblk V c 1 t) (iblk V c 2 t) (iblk V c 4 t)
    | ⟨11, _⟩ => outScores (iblk V c 1 t) (iblk V c 3 t) (iblk V c 5 t)
    | ⟨12, _⟩ => outX1 (iblk V c 0 t) (iblk V c 1 t) (iblk V c 2 t) (iblk V c 4 t) (iblk V c 6 t)
    | ⟨13, _⟩ => outY1 (iblk V c 0 t) (iblk V c 1 t) (iblk V c 2 t) (iblk V c 4 t) (iblk V c 7 t)
    | ⟨14, _⟩ => outX2 (iblk V c 0 t) (iblk V c 1 t) (iblk V c 2 t) (iblk V c 4 t) (iblk V c 6 t) (iblk V c 8 t)
    | ⟨15, _⟩ => outY2 (iblk V c 0 t) (iblk V c 1 t) (iblk V c 2 t) (iblk V c 4 t) (iblk V c 7 t) (iblk V c 9 t)
    | ⟨16, _⟩ => outArea (iblk V c 0 t) (iblk V c 1 t) (iblk V c 2 t) (iblk V c 4 t) (iblk V c 6 t) (iblk V c 7 t) (iblk V c 8 t) (iblk V c 9 t)
    | ⟨17, _⟩ => outFg (iblk V c 0 t) (iblk V c 1 t) (iblk V c 2 t) (iblk V c 3 t) (iblk V c 4 t) (iblk V c 5 t) (iblk V c 6 t) (iblk V c 7 t) (iblk V c 8 t) (iblk V c 9 t)
    | ⟨_ + 18, h⟩ => absurd h (Nat.not_lt.2 (Nat.le_add_left _ _))
  Φ _ := ΦK (F := F) c
  q _ := fullShare
  owed _ := 0

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) :
    (dat V c).after 10 t = outLocs (iblk V c 1 t) (iblk V c 2 t) (iblk V c 4 t) := by dsimp only [dat]
theorem after_11 (c : Dev nD) (t : Fin cfg1.N) :
    (dat V c).after 11 t = outScores (iblk V c 1 t) (iblk V c 3 t) (iblk V c 5 t) := by dsimp only [dat]
theorem after_12 (c : Dev nD) (t : Fin cfg1.N) :
    (dat V c).after 12 t = outX1 (iblk V c 0 t) (iblk V c 1 t) (iblk V c 2 t) (iblk V c 4 t) (iblk V c 6 t) := by dsimp only [dat]
theorem after_13 (c : Dev nD) (t : Fin cfg1.N) :
    (dat V c).after 13 t = outY1 (iblk V c 0 t) (iblk V c 1 t) (iblk V c 2 t) (iblk V c 4 t) (iblk V c 7 t) := by dsimp only [dat]
theorem after_14 (c : Dev nD) (t : Fin cfg1.N) :
    (dat V c).after 14 t = outX2 (iblk V c 0 t) (iblk V c 1 t) (iblk V c 2 t) (iblk V c 4 t) (iblk V c 6 t) (iblk V c 8 t) := by dsimp only [dat]
theorem after_15 (c : Dev nD) (t : Fin cfg1.N) :
    (dat V c).after 15 t = outY2 (iblk V c 0 t) (iblk V c 1 t) (iblk V c 2 t) (iblk V c 4 t) (iblk V c 7 t) (iblk V c 9 t) := by dsimp only [dat]
theorem after_16 (c : Dev nD) (t : Fin cfg1.N) :
    (dat V c).after 16 t = outArea (iblk V c 0 t) (iblk V c 1 t) (iblk V c 2 t) (iblk V c 4 t) (iblk V c 6 t) (iblk V c 7 t) (iblk V c 8 t) (iblk V c 9 t) := by dsimp only [dat]
theorem after_17 (c : Dev nD) (t : Fin cfg1.N) :
    (dat V c).after 17 t = outFg (iblk V c 0 t) (iblk V c 1 t) (iblk V c 2 t) (iblk V c 3 t) (iblk V c 4 t) (iblk V c 5 t) (iblk V c 6 t) (iblk V c 7 t) (iblk V c 8 t) (iblk V c 9 t) := by dsimp only [dat]

/-! An input's staging buffer holds its block when the kernel runs. -/

theorem before_0 (c : Dev nD) (t : Fin cfg1.N) (d) : (dat V c).before 0 t d = iblk V c 0 t :=
  (dat V c).before_in_eq_fetched 0 rfl (fun _ => rfl) (fun _ _ _ => rfl) (fun t => after_0 V c t) t d
theorem before_1 (c : Dev nD) (t : Fin cfg1.N) (d) : (dat V c).before 1 t d = iblk V c 1 t :=
  (dat V c).before_in_eq_fetched 1 rfl (fun _ => rfl) (fun _ _ _ => rfl) (fun t => after_1 V c t) t d
theorem before_2 (c : Dev nD) (t : Fin cfg1.N) (d) : (dat V c).before 2 t d = iblk V c 2 t :=
  (dat V c).before_in_eq_fetched 2 rfl (fun _ => rfl) (fun _ _ _ => rfl) (fun t => after_2 V c t) t d
theorem before_3 (c : Dev nD) (t : Fin cfg1.N) (d) : (dat V c).before 3 t d = iblk V c 3 t :=
  (dat V c).before_in_eq_fetched 3 rfl (fun _ => rfl) (fun _ _ _ => rfl) (fun t => after_3 V c t) t d
theorem before_4 (c : Dev nD) (t : Fin cfg1.N) (d) : (dat V c).before 4 t d = iblk V c 4 t :=
  (dat V c).before_in_eq_fetched 4 rfl (fun _ => rfl) (fun _ _ _ => rfl) (fun t => after_4 V c t) t d
theorem before_5 (c : Dev nD) (t : Fin cfg1.N) (d) : (dat V c).before 5 t d = iblk V c 5 t :=
  (dat V c).before_in_eq_fetched 5 rfl (fun _ => rfl) (fun _ _ _ => rfl) (fun t => after_5 V c t) t d
theorem before_6 (c : Dev nD) (t : Fin cfg1.N) (d) : (dat V c).before 6 t d = iblk V c 6 t :=
  (dat V c).before_in_eq_fetched 6 rfl (fun _ => rfl) (fun _ _ _ => rfl) (fun t => after_6 V c t) t d
theorem before_7 (c : Dev nD) (t : Fin cfg1.N) (d) : (dat V c).before 7 t d = iblk V c 7 t :=
  (dat V c).before_in_eq_fetched 7 rfl (fun _ => rfl) (fun _ _ _ => rfl) (fun t => after_7 V c t) t d
theorem before_8 (c : Dev nD) (t : Fin cfg1.N) (d) : (dat V c).before 8 t d = iblk V c 8 t :=
  (dat V c).before_in_eq_fetched 8 rfl (fun _ => rfl) (fun _ _ _ => rfl) (fun t => after_8 V c t) t d
theorem before_9 (c : Dev nD) (t : Fin cfg1.N) (d) : (dat V c).before 9 t d = iblk V c 9 t :=
  (dat V c).before_in_eq_fetched 9 rfl (fun _ => rfl) (fun _ _ _ => rfl) (fun t => after_9 V c t) t d

/-- What the body obligation hands the kernel at its point, and what it returns. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d))
    ∗ (∃ d, owns (c : Thread nD τ) (st1_17 t) fullShare ((dat V c).before 17 t d)))
@[inherit_doc bodyPre] def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t)
    ∗ owns (c : Thread nD τ) (st1_16 t) fullShare ((dat V c).after 16 t)
    ∗ owns (c : Thread nD τ) (st1_17 t) fullShare ((dat V c).after 17 t))

set_option maxHeartbeats 1600000 in
/-- The kernel at its point, from the inputs' blocks, leaves the eight outputs. -/
theorem sound_body (c : Dev nD) (t : Fin cfg1.N) :
    bodyPre V c t ⊢ wp frame (wpE (defs₀ (F := F)) 𝒱₀ c none) Set.univ (bodyAt1 t) (fun _ => bodyPost V c t) := by
  unfold bodyPre bodyPost bodyAt1
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14, after_15, after_16, after_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
    ⟨%d12, H12⟩, ⟨%d13, H13⟩, ⟨%d14, H14⟩, ⟨%d15, H15⟩, ⟨%d16, H16⟩, ⟨%d17, H17⟩⟩
  iapply (run 𝒱₀ c _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t)
    (iblk V c 9 t)
    _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at the point is the kernel there. -/
theorem defs₀_row (t : Fin cfg1.N) :
    defs₀ (F := F) .tc cfg1.body (cfg1.bodyArgs t (cfg1.slots t)) = bodyAt1 t := by
  unfold defs₀; rw [Defs.onTc_tc]

/-- The kernel meets its obligation. -/
theorem body_obligation (c : Dev nD) : BodyObligation (dat V c) (defs₀ (F := F)) 𝒱₀ () Set.univ := fun t => by
  rw [bigSep_W1, bigSep_W1, defs₀_row]
  exact triple_restated (sound_body 𝒱₀ V c t) rfl .rfl fun _ => .rfl

end Cert.Proof.KernelIdeal.Heads

end
-- ==== Proof.KernelIdeal.NmsRegion.lean ====
/-
  The suppression's kernel region: one grid point, whose loop picks the best remaining box two thousand times, stores it
  and removes what overlaps it. This file says what the scores and the five outputs hold before every trip and proves
  that the kernel leaves the outputs after the last.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import proofs.«01_k».proof.Proof.KernelIdeal.HeadsRegion
public import Idealize.ShloMosaic.Lib.VecWindow
public import Idealize.ShloMosaic.Lib.WritesUnit
public import Idealize.ShloMosaic.Lib.WholeRead
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.Proof.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.KernelIdeal.Heads (owns_whole load_whole)

/-- Minus infinity. -/
abbrev low : F .f32 := Scalar.ofBits .f32 0xFF800000#32

/-- Whether any box remains. -/
def valid (s : Vec F S288x128 .f32) : BitVec 1 := Scalar.cmpf .ogt (k2_pay9 s) low

/-- The five values of the picked box: its four edges and its area. -/
def pickX1 (p s : Vec F S288x128 .f32) : FVec F S1x1 .f32 := k2_pay11 k2_pay2 (k2_pay3 p) low s
@[inherit_doc pickX1] def pickY1 (p s : Vec F S288x128 .f32) : FVec F S1x1 .f32 := k2_pay12 k2_pay2 (k2_pay4 p) low s
@[inherit_doc pickX1] def pickX2 (p s : Vec F S288x128 .f32) : FVec F S1x1 .f32 := k2_pay13 k2_pay2 (k2_pay5 p) low s
@[inherit_doc pickX1] def pickY2 (p s : Vec F S288x128 .f32) : FVec F S1x1 .f32 := k2_pay14 k2_pay2 (k2_pay6 p) low s
@[inherit_doc pickX1] def pickArea (p s : Vec F S288x128 .f32) : FVec F S1x1x1 .f32 := k2_pay15 k2_pay2 (k2_pay7 p) low s

/-- The scores that a trip leaves. -/
def next (p1 p2 p3 p4 p5 s : Vec F S288x128 .f32) : Vec F S288x128 .f32 :=
  k2_pay16 (k2_pay3 p1) (k2_pay4 p2) (k2_pay5 p3) (k2_pay6 p4) (k2_pay7 p5) low s (k2_pay10 k2_pay2 s) (pickX1 p1 s) (pickY1 p2 s)
    (pickX2 p3 s) (pickY2 p4 s) (pickArea p5 s)

/-- The scores before trip `k`. -/
def scores (s p1 p2 p3 p4 p5 : Vec F S288x128 .f32) : ℕ → Vec F S288x128 .f32
  | 0 => k2_pay1 s
  | k + 1 => next p1 p2 p3 p4 p5 (scores s p1 p2 p3 p4 p5 k)

/-- What a trip stores: the picked box's edges, or zeros when none remained, and whether one did. -/
def rowX1 (p s : Vec F S288x128 .f32) : FVec F S1x1 .f32 := k2_pay18 (valid s) (pickX1 p s)
@[inherit_doc rowX1] def rowY1 (p s : Vec F S288x128 .f32) : FVec F S1x1 .f32 := k2_pay19 (valid s) (pickY1 p s)
@[inherit_doc rowX1] def rowX2 (p s : Vec F S288x128 .f32) : FVec F S1x1 .f32 := k2_pay20 (valid s) (pickX2 p s)
@[inherit_doc rowX1] def rowY2 (p s : Vec F S288x128 .f32) : FVec F S1x1 .f32 := k2_pay21 (valid s) (pickY2 p s)
@[inherit_doc rowX1] def rowOk (s : Vec F S288x128 .f32) : IVec S1x1 32 := k2_pay8 (valid s)

/-- The only index of a one-by-one array. -/
def origin : S1x1.Idx := fun a => ⟨0, by fin_cases a <;> decide⟩

theorem eq_origin (x : S1x1.Idx) : x = origin := funext fun a => Fin.ext (by
  have := (x a).isLt
  fin_cases a <;> (have h : (x _).val < 1 := this; show (x _).val = 0; omega))

/-- An output after `k` trips: the rows stored so far over what it held. -/
def rows {α : Type} (f : ℕ → S1x1.Idx → α) (o : S2000x1.Idx → α) (k : ℕ) : S2000x1.Idx → α :=
  fun y => if (y 0).val < k then f (y 0).val origin else o y

theorem rows_zero {α : Type} (f : ℕ → S1x1.Idx → α) (o : S2000x1.Idx → α) : rows f o 0 = o := rfl

/-- The loop makes two thousand trips. -/
theorem trips_eq : k2_t1_loop.trips = 2000 := by decide

/-- A trip stores at the row of its number. -/
theorem off_eq (k : Fin k2_t1_loop.trips) : k2_off1 k = ![k.val, 0] := by
  have hk : k.val < 2000 := lt_of_lt_of_eq k.isLt trips_eq
  unfold k2_off1
  funext a
  fin_cases a
  · show ((0#32 : BitVec 32) + BitVec.ofNat 32 k.val * 1#32).toNat = k.val
    simp only [BitVec.toNat_add, BitVec.toNat_mul, BitVec.toNat_ofNat]
    omega
  · rfl

/-- Storing a trip's row makes the rows stored so far one more. -/
theorem rows_succ {e : EltTy} {m : Memref sig .tc .vmem S2000x1 e} (h : m.IsWhole) (f : ℕ → S1x1.Idx → Elt F e)
    (o : S2000x1.Idx → Elt F e) (k : Fin k2_t1_loop.trips) (inb : ∀ a, k2_off1 k a + S1x1.size a ≤ S2000x1.size a)
    (w : (Rect.unit (s := S2000x1) (k2_off1 k) S1x1.size inb).shape.Idx → Elt F e) (hw : w = f k.val) :
    View.read (Elt F) m.view (m.view.writes (Elt F) (h.unread (rows f o k.val)) [⟨Rect.unit (s := S2000x1) (k2_off1 k) S1x1.size inb, w⟩])
      = rows f o (k.val + 1) := by
  funext y
  have h1 : (y 1).val = 0 := by have : (y 1).val < 1 := (y 1).isLt; omega
  rcases lt_trichotomy (y 0).val k.val with hlt | heq | hgt
  · rw [View.read_writes_cons_unit_of_not_mem m.view _ inb w [] y (off_eq k) (0 : Fin 2) (.inl hlt)]
    show View.read (Elt F) m.view (h.unread _) y = _
    rw [h.read_unread, rows, rows, if_pos hlt, if_pos (by omega)]
  · rw [View.read_writes_cons_unit_of_mem m.view _ inb w [] y origin (off_eq k) (by
      intro a; fin_cases a
      · exact heq
      · exact h1)]
    rw [rows, if_pos (by omega), heq, hw]
  · rw [View.read_writes_cons_unit_of_not_mem m.view _ inb w [] y (off_eq k) (0 : Fin 2) (.inr (by
      show k.val + 1 ≤ (y 0).val; omega))]
    show View.read (Elt F) m.view (h.unread _) y = _
    rw [h.read_unread, rows, rows, if_neg (by omega), if_neg (by omega)]

variable (𝒱₀ : Variants)

section Run

variable (c : Dev nD)
  (arg0 : Memref sig .tc .vmem S288x128 .f32) (harg0 : arg0.IsWhole) (arg1 : Memref sig .tc .vmem S288x128 .f32) (harg1 : arg1.IsWhole)
  (arg2 : Memref sig .tc .vmem S288x128 .f32) (harg2 : arg2.IsWhole) (arg3 : Memref sig .tc .vmem S288x128 .f32) (harg3 : arg3.IsWhole)
  (arg4 : Memref sig .tc .vmem S288x128 .f32) (harg4 : arg4.IsWhole) (arg5 : Memref sig .tc .vmem S288x128 .f32) (harg5 : arg5.IsWhole)
  (arg6 : Memref sig .tc .vmem S2000x1 .f32) (harg6 : arg6.IsWhole) (arg7 : Memref sig .tc .vmem S2000x1 .f32) (harg7 : arg7.IsWhole)
  (arg8 : Memref sig .tc .vmem S2000x1 .f32) (harg8 : arg8.IsWhole) (arg9 : Memref sig .tc .vmem S2000x1 .f32) (harg9 : arg9.IsWhole)
  (arg10 : Memref sig .tc .vmem S2000x1 .i32) (harg10 : arg10.IsWhole) (arg11 : Memref sig .tc .vmem S288x128 .f32) (harg11 : arg11.IsWhole)
  (s p1 p2 p3 p4 p5 : Vec F S288x128 .f32) (o6 o7 o8 o9 : Vec F S2000x1 .f32) (o10 : Vec F S2000x1 .i32) (o11 : Vec F S288x128 .f32)

/-- Before trip `k`: the scores, and the outputs with the rows stored so far. -/
def inv (k : ℕ) (_ : Unit) : sProp 𝕄 :=
  iprop(owns (c : Thread nD τ) arg11 fullShare (scores s p1 p2 p3 p4 p5 k)
    ∗ owns (c : Thread nD τ) arg6 fullShare (rows (fun k => rowX1 p1 (scores s p1 p2 p3 p4 p5 k)) o6 k)
    ∗ owns (c : Thread nD τ) arg7 fullShare (rows (fun k => rowY1 p2 (scores s p1 p2 p3 p4 p5 k)) o7 k)
    ∗ owns (c : Thread nD τ) arg8 fullShare (rows (fun k => rowX2 p3 (scores s p1 p2 p3 p4 p5 k)) o8 k)
    ∗ owns (c : Thread nD τ) arg9 fullShare (rows (fun k => rowY2 p4 (scores s p1 p2 p3 p4 p5 k)) o9 k)
    ∗ owns (c : Thread nD τ) arg10 fullShare (rows (fun k => rowOk (scores s p1 p2 p3 p4 p5 k)) o10 k))

set_option maxHeartbeats 4000000 in
/-- One trip takes the next step of the scores and stores its five rows. -/
theorem trip (k : Fin k2_t1_loop.trips) (u : Unit) (E : Set ℕ) :
    inv c arg6 arg7 arg8 arg9 arg10 arg11 s p1 p2 p3 p4 p5 o6 o7 o8 o9 o10 k.val u
      ⊢ wp frame (wpE (defs₀ (F := F)) 𝒱₀ c none) E (k2_t1_body arg0 harg0 arg1 harg1 arg2 harg2 arg3 harg3 arg4 harg4 arg5 harg5 arg6 harg6 arg7 harg7 arg8 harg8 arg9 harg9 arg10 harg10 arg11 harg11 p1 p2 p3 p4 p5 low k u)
        (inv c arg6 arg7 arg8 arg9 arg10 arg11 s p1 p2 p3 p4 p5 o6 o7 o8 o9 o10 (k.val + 1)) := by
  unfold inv k2_t1_body
  simp only [k2_part1_eq_skeleton, k2_part2_eq_skeleton]
  rw [owns_whole c harg11 (scores s p1 p2 p3 p4 p5 k.val), owns_whole c harg6 (rows (fun k => rowX1 p1 (scores s p1 p2 p3 p4 p5 k)) o6 k.val), owns_whole c harg7 (rows (fun k => rowY1 p2 (scores s p1 p2 p3 p4 p5 k)) o7 k.val), owns_whole c harg8 (rows (fun k => rowX2 p3 (scores s p1 p2 p3 p4 p5 k)) o8 k.val), owns_whole c harg9 (rows (fun k => rowY2 p4 (scores s p1 p2 p3 p4 p5 k)) o9 k.val), owns_whole c harg10 (rows (fun k => rowOk (scores s p1 p2 p3 p4 p5 k)) o10 k.val)]
  iintro ⟨H11, H6, H7, H8, H9, H10⟩
  sl_exec
  sl_step
  isplitl [H11]
  · unfold owns; iexists _; isplitr
    swap; · iexact H11
    ipureintro; rw [View.read_writes_full]
    delta trip.sl.r_1 trip.sl.r_2 trip.sl.r_3 trip.sl.r_4 trip.sl.r_5 trip.sl.r_6 trip.sl.r
    rw [load_whole harg11]; rfl
  isplitl [H6]
  · unfold owns; iexists _; isplitr
    swap; · iexact H6
    ipureintro
    exact rows_succ harg6 _ o6 k _ _ (by
        delta trip.sl.v26 trip.sl.r_2; try delta trip.sl.r
        rw [load_whole harg11]; rfl)
  isplitl [H7]
  · unfold owns; iexists _; isplitr
    swap; · iexact H7
    ipureintro
    exact rows_succ harg7 _ o7 k _ _ (by
        delta trip.sl.v26 trip.sl.r_3; try delta trip.sl.r
        rw [load_whole harg11]; rfl)
  isplitl [H8]
  · unfold owns; iexists _; isplitr
    swap; · iexact H8
    ipureintro
    exact rows_succ harg8 _ o8 k _ _ (by
        delta trip.sl.v26 trip.sl.r_4; try delta trip.sl.r
        rw [load_whole harg11]; rfl)
  isplitl [H9]
  · unfold owns; iexists _; isplitr
    swap; · iexact H9
    ipureintro
    exact rows_succ harg9 _ o9 k _ _ (by
        delta trip.sl.r_7; delta trip.sl.v26 trip.sl.r_5; try delta trip.sl.r
        rw [load_whole harg11]; rfl)
  unfold owns; iexists _; isplitr
  swap; · iexact H10
  ipureintro
  exact rows_succ harg10 _ o10 k _ _ (by
        delta trip.sl.v26; try delta trip.sl.r
        rw [load_whole harg11]; rfl)

set_option maxHeartbeats 4000000 in
/-- The kernel leaves its five outputs with all two thousand rows stored and its inputs as they were. -/
theorem run (E : Set ℕ) (K : PUnit → sProp 𝕄) :
    iprop(owns (c : Thread nD τ) arg0 fullShare s ∗ owns (c : Thread nD τ) arg1 fullShare p1 ∗ owns (c : Thread nD τ) arg2 fullShare p2 ∗
    owns (c : Thread nD τ) arg3 fullShare p3 ∗ owns (c : Thread nD τ) arg4 fullShare p4 ∗ owns (c : Thread nD τ) arg5 fullShare p5 ∗
    owns (c : Thread nD τ) arg6 fullShare o6 ∗ owns (c : Thread nD τ) arg7 fullShare o7 ∗ owns (c : Thread nD τ) arg8 fullShare o8 ∗
    owns (c : Thread nD τ) arg9 fullShare o9 ∗ owns (c : Thread nD τ) arg10 fullShare o10 ∗ owns (c : Thread nD τ) arg11 fullShare o11
        ∗ (iprop(owns (c : Thread nD τ) arg0 fullShare s ∗ owns (c : Thread nD τ) arg1 fullShare p1 ∗ owns (c : Thread nD τ) arg2 fullShare p2 ∗
      owns (c : Thread nD τ) arg3 fullShare p3 ∗ owns (c : Thread nD τ) arg4 fullShare p4 ∗ owns (c : Thread nD τ) arg5 fullShare p5
        ∗ owns (c : Thread nD τ) arg6 fullShare (rows (fun k => rowX1 p1 (scores s p1 p2 p3 p4 p5 k)) o6 2000)
        ∗ owns (c : Thread nD τ) arg7 fullShare (rows (fun k => rowY1 p2 (scores s p1 p2 p3 p4 p5 k)) o7 2000)
        ∗ owns (c : Thread nD τ) arg8 fullShare (rows (fun k => rowX2 p3 (scores s p1 p2 p3 p4 p5 k)) o8 2000)
        ∗ owns (c : Thread nD τ) arg9 fullShare (rows (fun k => rowY2 p4 (scores s p1 p2 p3 p4 p5 k)) o9 2000)
        ∗ owns (c : Thread nD τ) arg10 fullShare (rows (fun k => rowOk (scores s p1 p2 p3 p4 p5 k)) o10 2000)
        ∗ owns (c : Thread nD τ) arg11 fullShare (scores s p1 p2 p3 p4 p5 2000)) -∗ K ⟨⟩))
      ⊢ wp frame (wpE (defs₀ (F := F)) 𝒱₀ c none) E (cc2__nms_kernel arg0 harg0 arg1 harg1 arg2 harg2 arg3 harg3 arg4 harg4 arg5 harg5 arg6 harg6 arg7 harg7 arg8 harg8 arg9 harg9 arg10 harg10 arg11 harg11) K := by
  simp only [cc2__nms_kernel_eq_skeleton]; unfold cc2__nms_kernel_skel
  rw [owns_whole c harg0 s, owns_whole c harg1 p1, owns_whole c harg2 p2, owns_whole c harg3 p3, owns_whole c harg4 p4, owns_whole c harg5 p5, owns_whole c harg11 o11]
  iintro ⟨H0, H1, H2, H3, H4, H5, H6, H7, H8, H9, H10, H11, Hk⟩
  sl_exec
  rw [load_whole harg1 p1, load_whole harg2 p2, load_whole harg3 p3, load_whole harg4 p4, load_whole harg5 p5]
  sl_for (inv c arg6 arg7 arg8 arg9 arg10 arg11 s p1 p2 p3 p4 p5 o6 o7 o8 o9 o10) $$ [H11 H6 H7 H8 H9 H10]
  case region =>
    intro k u
    exact trip 𝒱₀ c arg0 harg0 arg1 harg1 arg2 harg2 arg3 harg3 arg4 harg4 arg5 harg5 arg6 harg6 arg7 harg7 arg8 harg8 arg9 harg9 arg10 harg10 arg11 harg11 s p1 p2 p3 p4 p5 o6 o7 o8 o9 o10 k u E
  · unfold inv
    isplitl [H11]
    · unfold owns; iexists _; isplitr
      swap; · iexact H11
      ipureintro; delta run.sl.H11_1; rw [View.read_writes_full, load_whole harg0 s]; rfl
    rw [rows_zero, rows_zero, rows_zero, rows_zero, rows_zero]
    isplitl [H6]; · iexact H6
    isplitl [H7]; · iexact H7
    isplitl [H8]; · iexact H8
    isplitl [H9]; · iexact H9
    iexact H10
  iintro %u HI
  rw [show Scf.trips k2_t1_loop.lb k2_t1_loop.ub k2_t1_loop.st = 2000 from trips_eq]
  unfold inv
  icases HI with ⟨H11, H6, H7, H8, H9, H10⟩
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Run

/-! ## The region's proof data -/

variable (V : (c : Dev nD) → (b : Ref sig .tc) → Buf (Elt F) ((c : Thread nD τ).loc b))

/-- A window's block at a point, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the region holds throughout: its scratch space and the generator register. -/
def ΦK (c : Dev nD) : sProp 𝕄 :=
  iprop(Pipeline.scopedRest (Ix := Unit) (Name := ℕ) (U := UR sig nD τ) (Lvl := ℕ) (Val := Elt F) spec2 c ∗ ∃ r, prngReg c r)

/-- The scores before trip `k`, from the region's inputs. -/
def scoresAt (c : Dev nD) (t : Fin cfg2.N) (k : ℕ) : Vec F S288x128 .f32 :=
  scores (iblk V c 0 t) (iblk V c 1 t) (iblk V c 2 t) (iblk V c 3 t) (iblk V c 4 t) (iblk V c 5 t) k

/-- The outputs at the end: trip by trip their rows. -/
def outX1 (c : Dev nD) (t : Fin cfg2.N) : Vec F S2000x1 .f32 := fun y => rowX1 (iblk V c 1 t) (scoresAt V c t (y 0).val) origin
@[inherit_doc outX1] def outY1 (c : Dev nD) (t : Fin cfg2.N) : Vec F S2000x1 .f32 := fun y => rowY1 (iblk V c 2 t) (scoresAt V c t (y 0).val) origin
@[inherit_doc outX1] def outX2 (c : Dev nD) (t : Fin cfg2.N) : Vec F S2000x1 .f32 := fun y => rowX2 (iblk V c 3 t) (scoresAt V c t (y 0).val) origin
@[inherit_doc outX1] def outY2 (c : Dev nD) (t : Fin cfg2.N) : Vec F S2000x1 .f32 := fun y => rowY2 (iblk V c 4 t) (scoresAt V c t (y 0).val) origin
@[inherit_doc outX1] def outOk (c : Dev nD) (t : Fin cfg2.N) : Vec F S2000x1 .i32 := fun y => rowOk (scoresAt V c t (y 0).val) origin

/-- After all trips nothing is left of what an output held. -/
theorem rows_all {α : Type} (f : ℕ → S1x1.Idx → α) (o : S2000x1.Idx → α) : rows f o 2000 = fun y => f (y 0).val origin :=
  funext fun y => if_pos (show (y 0).val < 2000 from (y 0).isLt)

/-- The region's proof data: the arrays as found; after the point the inputs' blocks as they were and the five outputs. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outX1 V c t
    | ⟨7, _⟩ => outY1 V c t
    | ⟨8, _⟩ => outX2 V c t
    | ⟨9, _⟩ => outY2 V c t
    | ⟨10, _⟩ => outOk V c t
    | ⟨_ + 11, h⟩ => absurd h (Nat.not_lt.2 (Nat.le_add_left _ _))
  Φ _ := ΦK (F := F) c
  q _ := fullShare
  owed _ := 0

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = outX1 V c t := by dsimp only [dat]
theorem after_7 (c : Dev nD) (t : Fin cfg2.N) : (dat V c).after 7 t = outY1 V c t := by dsimp only [dat]
theorem after_8 (c : Dev nD) (t : Fin cfg2.N) : (dat V c).after 8 t = outX2 V c t := by dsimp only [dat]
theorem after_9 (c : Dev nD) (t : Fin cfg2.N) : (dat V c).after 9 t = outY2 V c t := by dsimp only [dat]
theorem after_10 (c : Dev nD) (t : Fin cfg2.N) : (dat V c).after 10 t = outOk V c t := by dsimp only [dat]

/-! An input's staging buffer holds its block when the kernel runs. -/

theorem before_0 (c : Dev nD) (t : Fin cfg2.N) (d) : (dat V c).before 0 t d = iblk V c 0 t :=
  (dat V c).before_in_eq_fetched 0 rfl (fun _ => rfl) (fun _ _ _ => rfl) (fun t => after_0 V c t) t d
theorem before_1 (c : Dev nD) (t : Fin cfg2.N) (d) : (dat V c).before 1 t d = iblk V c 1 t :=
  (dat V c).before_in_eq_fetched 1 rfl (fun _ => rfl) (fun _ _ _ => rfl) (fun t => after_1 V c t) t d
theorem before_2 (c : Dev nD) (t : Fin cfg2.N) (d) : (dat V c).before 2 t d = iblk V c 2 t :=
  (dat V c).before_in_eq_fetched 2 rfl (fun _ => rfl) (fun _ _ _ => rfl) (fun t => after_2 V c t) t d
theorem before_3 (c : Dev nD) (t : Fin cfg2.N) (d) : (dat V c).before 3 t d = iblk V c 3 t :=
  (dat V c).before_in_eq_fetched 3 rfl (fun _ => rfl) (fun _ _ _ => rfl) (fun t => after_3 V c t) t d
theorem before_4 (c : Dev nD) (t : Fin cfg2.N) (d) : (dat V c).before 4 t d = iblk V c 4 t :=
  (dat V c).before_in_eq_fetched 4 rfl (fun _ => rfl) (fun _ _ _ => rfl) (fun t => after_4 V c t) t d
theorem before_5 (c : Dev nD) (t : Fin cfg2.N) (d) : (dat V c).before 5 t d = iblk V c 5 t :=
  (dat V c).before_in_eq_fetched 5 rfl (fun _ => rfl) (fun _ _ _ => rfl) (fun t => after_5 V c t) t d

/-- What the body obligation hands the kernel at its point, and what it returns. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d)))
@[inherit_doc bodyPre] def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t))

/-- The scores' scratch buffer, held whole, is owned through its memref. -/
theorem owns_scratch (c : Dev nD) (f : Buf (Elt F) ((c : Thread nD τ).loc cc2_scratch0)) :
    (((c : Thread nD τ).loc cc2_scratch0) ↦{fullShare} f : sProp 𝕄) ⊢ owns (c : Thread nD τ) (Memref.whole cc2_scratch0) fullShare f := by
  unfold owns; simp only [Memref.view_whole, View.read_whole, View.set_whole]
  iintro H; iexists f; isplitr; · ipureintro; rfl
  iexact H

/-- And back. -/
theorem scratch_owns (c : Dev nD) (x : Vec F S288x128 .f32) :
    (owns (c : Thread nD τ) (Memref.whole cc2_scratch0) fullShare x : sProp 𝕄)
      ⊢ iprop(∃ f : Buf (Elt F) ((c : Thread nD τ).loc cc2_scratch0), ((c : Thread nD τ).loc cc2_scratch0) ↦{fullShare} f) := by
  unfold owns; simp only [Memref.view_whole, View.read_whole, View.set_whole]
  iintro ⟨%f, %hf, H⟩
  iexists f
  iexact H

set_option maxHeartbeats 1600000 in
/-- The kernel at its point, from the inputs' blocks, leaves the five outputs. -/
theorem sound_body (c : Dev nD) (t : Fin cfg2.N) :
    bodyPre V c t ⊢ wp frame (wpE (defs₀ (F := F)) 𝒱₀ c none) Set.univ (bodyAt2 t) (fun _ => bodyPost V c t) := by
  unfold bodyPre bodyPost bodyAt2
  simp only [before_0, before_1, before_2, before_3, before_4, before_5]
  rw [show (dat V c).Φ t.succ = ΦK (F := F) c from rfl, show (dat V c).Φ t.castSucc = ΦK (F := F) c from rfl,
    show (dat V c).owesAt () t.succ = (dat V c).owesAt () t.castSucc from rfl,
    after_0, after_1, after_2, after_3, after_4, after_5, after_6, after_7, after_8, after_9, after_10]
  unfold ΦK
  rw [scopedRest2_split]
  iintro ⟨⟨⟨⟨%f, Hs⟩, Hr⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run 𝒱₀ c _ _ _ _ _ _ _ _ _ _ _ _ _ _ _ _ _ _ _ _ _ _ _ _ (iblk V c 0 t) (iblk V c 1 t) (iblk V c 2 t) (iblk V c 3 t) (iblk V c 4 t) (iblk V c 5 t)
    ((dat V c).before 6 t d6) ((dat V c).before 7 t d7) ((dat V c).before 8 t d8) ((dat V c).before 9 t d9) ((dat V c).before 10 t d10) f Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hs]; · iapply (owns_scratch c f); iexact Hs
  rw [rows_all, rows_all, rows_all, rows_all, rows_all]
  iintro ⟨H0, H1, H2, H3, H4, H5, H6, H7, H8, H9, H10, Hs⟩
  isplitl [Hs Hr Hp]
  · isplitl [Hs Hr]
    · isplitl [Hs]
      · iapply (scratch_owns c _); iexact Hs
      iexact Hr
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at the point is the kernel there. -/
theorem defs₀_row (t : Fin cfg2.N) :
    defs₀ (F := F) .tc cfg2.body (cfg2.bodyArgs t (cfg2.slots t)) = bodyAt2 t := by
  unfold defs₀; rw [Defs.onTc_tc]

/-- The kernel meets its obligation. -/
theorem body_obligation (c : Dev nD) : BodyObligation (dat V c) (defs₀ (F := F)) 𝒱₀ () Set.univ := fun t => by
  rw [bigSep_W2, bigSep_W2, defs₀_row]
  exact triple_restated (sound_body 𝒱₀ V c t) rfl .rfl fun _ => .rfl

end Cert.Proof.KernelIdeal.Nms

end
-- ==== Proof.KernelIdeal.Contents.lean ====
/-
  What every buffer holds between the program's items: three stretches of host operations, the convolution's region, the
  heads' region, a stretch, the suppression's region and the last stretch. No argument is among what is written.
-/
module

public import proofs.«01_k».proof.Proof.KernelIdeal.ConvRegion
public import proofs.«01_k».proof.Proof.KernelIdeal.HeadsRegion
public import proofs.«01_k».proof.Proof.KernelIdeal.NmsRegion
public import proofs.«01_k».proof.Proof.Gen.KernelIdeal.Regions
public import Idealize.ShloMosaic.Lib.Pipeline.RegionArrays

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the buffers hold -/

/-- A valuation read at a TensorCore's references. -/
abbrev atRef (V : Dev nD → Valuation τ sig (Elt F)) (c : Dev nD) (b : Ref sig .tc) : Buf (Elt F) ((c : Thread nD τ).loc b) :=
  V c (Proc.devRef .tc b)

/-- The convolution's proof data, entered after the first three stretches. -/
def conv (c : Dev nD) : Dat τ (Elt F) Unit ℕ (UR sig nD τ) ℕ cfg0 c := Conv.dat (atRef (V3 m)) c
/-- After the convolution: its result is written. -/
@[irreducible] def W4 (c : Dev nD) : Valuation τ sig (Elt F) := Function.update (V3 m c) main_v130 ((conv m c).arrAt 3 cfg0.N)
/-- The heads' proof data. -/
def heads (c : Dev nD) : Dat τ (Elt F) Unit ℕ (UR sig nD τ) ℕ cfg1 c := Heads.dat (atRef (W4 m)) c
/-- After the heads: their eight results are written. -/
@[irreducible] def W5 (c : Dev nD) : Valuation τ sig (Elt F) :=
  Function.update (Function.update (Function.update (Function.update (Function.update (Function.update (Function.update (Function.update (W4 m c) main_v131_0 ((heads m c).arrAt 10 cfg1.N))
     main_v131_1 ((heads m c).arrAt 11 cfg1.N))
     main_v131_2 ((heads m c).arrAt 12 cfg1.N))
     main_v131_3 ((heads m c).arrAt 13 cfg1.N))
     main_v131_4 ((heads m c).arrAt 14 cfg1.N))
     main_v131_5 ((heads m c).arrAt 15 cfg1.N))
     main_v131_6 ((heads m c).arrAt 16 cfg1.N))
     main_v131_7 ((heads m c).arrAt 17 cfg1.N)
/-- After the stretch between the heads and the suppression. -/
abbrev W6 (c : Dev nD) : Valuation τ sig (Elt F) := StableHlo.after hostOps2 (W5 m c)
/-- The suppression's proof data. -/
def nms (c : Dev nD) : Dat τ (Elt F) Unit ℕ (UR sig nD τ) ℕ cfg2 c := Nms.dat (atRef (W6 m)) c
/-- After the suppression: its five results are written. -/
@[irreducible] def W7 (c : Dev nD) : Valuation τ sig (Elt F) :=
  Function.update (Function.update (Function.update (Function.update (Function.update (W6 m c) main_v138_0 ((nms m c).arrAt 6 cfg2.N))
     main_v138_1 ((nms m c).arrAt 7 cfg2.N))
     main_v138_2 ((nms m c).arrAt 8 cfg2.N))
     main_v138_3 ((nms m c).arrAt 9 cfg2.N))
     main_v138_4 ((nms m c).arrAt 10 cfg2.N)
/-- At the end. -/
abbrev W8 (c : Dev nD) : Valuation τ sig (Elt F) := StableHlo.after hostOps3 (W7 m c)

/-! A region changes nothing but its results. -/

theorem W4_of (c : Dev nD) (r : Ref sig .tc) (h : r ∉ ([main_v130] : List (Ref sig .tc))) : W4 m c r = V3 m c r := by
  simp only [List.mem_cons, List.not_mem_nil, or_false, not_or] at h
  unfold W4
  rw [Function.update_of_ne (StableHlo.devRef_ne_of_ne h)]

theorem W5_of (c : Dev nD) (r : Ref sig .tc)
    (h : r ∉ ([main_v131_0, main_v131_1, main_v131_2, main_v131_3, main_v131_4, main_v131_5, main_v131_6, main_v131_7] : List (Ref sig .tc))) :
    W5 m c r = W4 m c r := by
  simp only [List.mem_cons, List.not_mem_nil, or_false, not_or] at h
  obtain ⟨h0, h1, h2, h3, h4, h5, h6, h7⟩ := h
  unfold W5
  rw [Function.update_of_ne (StableHlo.devRef_ne_of_ne h7), Function.update_of_ne (StableHlo.devRef_ne_of_ne h6), Function.update_of_ne (StableHlo.devRef_ne_of_ne h5), Function.update_of_ne (StableHlo.devRef_ne_of_ne h4), Function.update_of_ne (StableHlo.devRef_ne_of_ne h3), Function.update_of_ne (StableHlo.devRef_ne_of_ne h2), Function.update_of_ne (StableHlo.devRef_ne_of_ne h1), Function.update_of_ne (StableHlo.devRef_ne_of_ne h0)]

theorem W7_of (c : Dev nD) (r : Ref sig .tc)
    (h : r ∉ ([main_v138_0, main_v138_1, main_v138_2, main_v138_3, main_v138_4] : List (Ref sig .tc))) :
    W7 m c r = W6 m c r := by
  simp only [List.mem_cons, List.not_mem_nil, or_false, not_or] at h
  obtain ⟨h0, h1, h2, h3, h4⟩ := h
  unfold W7
  rw [Function.update_of_ne (StableHlo.devRef_ne_of_ne h4), Function.update_of_ne (StableHlo.devRef_ne_of_ne h3), Function.update_of_ne (StableHlo.devRef_ne_of_ne h2), Function.update_of_ne (StableHlo.devRef_ne_of_ne h1), Function.update_of_ne (StableHlo.devRef_ne_of_ne h0)]

/-! A region's results after it, and its arrays as it found them. -/

theorem W4_at (c : Dev nD) : W4 m c main_v130 = (conv m c).arrAt 3 cfg0.N := by unfold W4; rw [Function.update_self]
theorem W5_at_0 (c : Dev nD) : W5 m c main_v131_0 = (heads m c).arrAt 10 cfg1.N := by
  unfold W5
  rw [Function.update_of_ne (StableHlo.devRef_ne_of_ne (by decide : (main_v131_0 : Ref sig .tc) ≠ main_v131_7)), Function.update_of_ne (StableHlo.devRef_ne_of_ne (by decide : (main_v131_0 : Ref sig .tc) ≠ main_v131_6)), Function.update_of_ne (StableHlo.devRef_ne_of_ne (by decide : (main_v131_0 : Ref sig .tc) ≠ main_v131_5)), Function.update_of_ne (StableHlo.devRef_ne_of_ne (by decide : (main_v131_0 : Ref sig .tc) ≠ main_v131_4)), Function.update_of_ne (StableHlo.devRef_ne_of_ne (by decide : (main_v131_0 : Ref sig .tc) ≠ main_v131_3)), Function.update_of_ne (StableHlo.devRef_ne_of_ne (by decide : (main_v131_0 : Ref sig .tc) ≠ main_v131_2)), Function.update_of_ne (StableHlo.devRef_ne_of_ne (by decide : (main_v131_0 : Ref sig .tc) ≠ main_v131_1)), Function.update_self]
theorem W5_at_1 (c : Dev nD) : W5 m c main_v131_1 = (heads m c).arrAt 11 cfg1.N := by
  unfold W5
  rw [Function.update_of_ne (StableHlo.devRef_ne_of_ne (by decide : (main_v131_1 : Ref sig .tc) ≠ main_v131_7)), Function.update_of_ne (StableHlo.devRef_ne_of_ne (by decide : (main_v131_1 : Ref sig .tc) ≠ main_v131_6)), Function.update_of_ne (StableHlo.devRef_ne_of_ne (by decide : (main_v131_1 : Ref sig .tc) ≠ main_v131_5)), Function.update_of_ne (StableHlo.devRef_ne_of_ne (by decide : (main_v131_1 : Ref sig .tc) ≠ main_v131_4)), Function.update_of_ne (StableHlo.devRef_ne_of_ne (by decide : (main_v131_1 : Ref sig .tc) ≠ main_v131_3)), Function.update_of_ne (StableHlo.devRef_ne_of_ne (by decide : (main_v131_1 : Ref sig .tc) ≠ main_v131_2)), Function.update_self]
theorem W5_at_2 (c : Dev nD) : W5 m c main_v131_2 = (heads m c).arrAt 12 cfg1.N := by
  unfold W5
  rw [Function.update_of_ne (StableHlo.devRef_ne_of_ne (by decide : (main_v131_2 : Ref sig .tc) ≠ main_v131_7)), Function.update_of_ne (StableHlo.devRef_ne_of_ne (by decide : (main_v131_2 : Ref sig .tc) ≠ main_v131_6)), Function.update_of_ne (StableHlo.devRef_ne_of_ne (by decide : (main_v131_2 : Ref sig .tc) ≠ main_v131_5)), Function.update_of_ne (StableHlo.devRef_ne_of_ne (by decide : (main_v131_2 : Ref sig .tc) ≠ main_v131_4)), Function.update_of_ne (StableHlo.devRef_ne_of_ne (by decide : (main_v131_2 : Ref sig .tc) ≠ main_v131_3)), Function.update_self]
theorem W5_at_3 (c : Dev nD) : W5 m c main_v131_3 = (heads m c).arrAt 13 cfg1.N := by
  unfold W5
  rw [Function.update_of_ne (StableHlo.devRef_ne_of_ne (by decide : (main_v131_3 : Ref sig .tc) ≠ main_v131_7)), Function.update_of_ne (StableHlo.devRef_ne_of_ne (by decide : (main_v131_3 : Ref sig .tc) ≠ main_v131_6)), Function.update_of_ne (StableHlo.devRef_ne_of_ne (by decide : (main_v131_3 : Ref sig .tc) ≠ main_v131_5)), Function.update_of_ne (StableHlo.devRef_ne_of_ne (by decide : (main_v131_3 : Ref sig .tc) ≠ main_v131_4)), Function.update_self]
theorem W5_at_4 (c : Dev nD) : W5 m c main_v131_4 = (heads m c).arrAt 14 cfg1.N := by
  unfold W5
  rw [Function.update_of_ne (StableHlo.devRef_ne_of_ne (by decide : (main_v131_4 : Ref sig .tc) ≠ main_v131_7)), Function.update_of_ne (StableHlo.devRef_ne_of_ne (by decide : (main_v131_4 : Ref sig .tc) ≠ main_v131_6)), Function.update_of_ne (StableHlo.devRef_ne_of_ne (by decide : (main_v131_4 : Ref sig .tc) ≠ main_v131_5)), Function.update_self]
theorem W5_at_5 (c : Dev nD) : W5 m c main_v131_5 = (heads m c).arrAt 15 cfg1.N := by
  unfold W5
  rw [Function.update_of_ne (StableHlo.devRef_ne_of_ne (by decide : (main_v131_5 : Ref sig .tc) ≠ main_v131_7)), Function.update_of_ne (StableHlo.devRef_ne_of_ne (by decide : (main_v131_5 : Ref sig .tc) ≠ main_v131_6)), Function.update_self]
theorem W5_at_6 (c : Dev nD) : W5 m c main_v131_6 = (heads m c).arrAt 16 cfg1.N := by
  unfold W5
  rw [Function.update_of_ne (StableHlo.devRef_ne_of_ne (by decide : (main_v131_6 : Ref sig .tc) ≠ main_v131_7)), Function.update_self]
theorem W5_at_7 (c : Dev nD) : W5 m c main_v131_7 = (heads m c).arrAt 17 cfg1.N := by
  unfold W5
  rw [Function.update_self]
theorem W7_at_0 (c : Dev nD) : W7 m c main_v138_0 = (nms m c).arrAt 6 cfg2.N := by
  unfold W7
  rw [Function.update_of_ne (StableHlo.devRef_ne_of_ne (by decide : (main_v138_0 : Ref sig .tc) ≠ main_v138_4)), Function.update_of_ne (StableHlo.devRef_ne_of_ne (by decide : (main_v138_0 : Ref sig .tc) ≠ main_v138_3)), Function.update_of_ne (StableHlo.devRef_ne_of_ne (by decide : (main_v138_0 : Ref sig .tc) ≠ main_v138_2)), Function.update_of_ne (StableHlo.devRef_ne_of_ne (by decide : (main_v138_0 : Ref sig .tc) ≠ main_v138_1)), Function.update_self]
theorem W7_at_1 (c : Dev nD) : W7 m c main_v138_1 = (nms m c).arrAt 7 cfg2.N := by
  unfold W7
  rw [Function.update_of_ne (StableHlo.devRef_ne_of_ne (by decide : (main_v138_1 : Ref sig .tc) ≠ main_v138_4)), Function.update_of_ne (StableHlo.devRef_ne_of_ne (by decide : (main_v138_1 : Ref sig .tc) ≠ main_v138_3)), Function.update_of_ne (StableHlo.devRef_ne_of_ne (by decide : (main_v138_1 : Ref sig .tc) ≠ main_v138_2)), Function.update_self]
theorem W7_at_2 (c : Dev nD) : W7 m c main_v138_2 = (nms m c).arrAt 8 cfg2.N := by
  unfold W7
  rw [Function.update_of_ne (StableHlo.devRef_ne_of_ne (by decide : (main_v138_2 : Ref sig .tc) ≠ main_v138_4)), Function.update_of_ne (StableHlo.devRef_ne_of_ne (by decide : (main_v138_2 : Ref sig .tc) ≠ main_v138_3)), Function.update_self]
theorem W7_at_3 (c : Dev nD) : W7 m c main_v138_3 = (nms m c).arrAt 9 cfg2.N := by
  unfold W7
  rw [Function.update_of_ne (StableHlo.devRef_ne_of_ne (by decide : (main_v138_3 : Ref sig .tc) ≠ main_v138_4)), Function.update_self]
theorem W7_at_4 (c : Dev nD) : W7 m c main_v138_4 = (nms m c).arrAt 10 cfg2.N := by
  unfold W7
  rw [Function.update_self]

theorem conv_A (c : Dev nD) (w : Fin cfg0.W) : (conv m c).A w = V3 m c (Proc.devRef .tc (Pipeline.arrRef spec0 w)) := rfl
theorem heads_A (c : Dev nD) (w : Fin cfg1.W) : (heads m c).A w = W4 m c (Proc.devRef .tc (Pipeline.arrRef spec1 w)) := rfl
theorem nms_A (c : Dev nD) (w : Fin cfg2.W) : (nms m c).A w = W6 m c (Proc.devRef .tc (Pipeline.arrRef spec2 w)) := rfl

/-! What the regions' arrays hold at their ends. -/

theorem kept0 (c : Dev nD) (w : Fin cfg0.W) (hin : (cfg0.win w).isOut = false)
    (h : Pipeline.arrRef spec0 w ∉ ([main_v130] : List (Ref sig .tc))) :
    (conv m c).arrAt w cfg0.N = W4 m c (Proc.devRef .tc (Pipeline.arrRef spec0 w)) :=
  ((conv m c).arrAt_in w hin _).trans ((conv_A m c w).trans (W4_of m c (Pipeline.arrRef spec0 w) h).symm)

set_option backward.isDefEq.respectTransparency.types false in
theorem out0 (c : Dev nD) : ∀ w : Fin cfg0.W, (conv m c).arrAt w cfg0.N = W4 m c (Proc.devRef .tc (Pipeline.arrRef spec0 w))
  | 0 => kept0 m c 0 rfl (by decide)
  | 1 => kept0 m c 1 rfl (by decide)
  | 2 => kept0 m c 2 rfl (by decide)
  | 3 => (W4_at m c).symm
  | ⟨_ + 4, h⟩ => absurd h (Nat.not_lt.2 (Nat.le_add_left _ _))

theorem kept1 (c : Dev nD) (w : Fin cfg1.W) (hin : (cfg1.win w).isOut = false)
    (h : Pipeline.arrRef spec1 w ∉ ([main_v131_0, main_v131_1, main_v131_2, main_v131_3, main_v131_4, main_v131_5, main_v131_6, main_v131_7] : List (Ref sig .tc))) :
    (heads m c).arrAt w cfg1.N = W5 m c (Proc.devRef .tc (Pipeline.arrRef spec1 w)) :=
  ((heads m c).arrAt_in w hin _).trans ((heads_A m c w).trans (W5_of m c (Pipeline.arrRef spec1 w) h).symm)

set_option backward.isDefEq.respectTransparency.types false in
theorem out1 (c : Dev nD) : ∀ w : Fin cfg1.W, (heads m c).arrAt w cfg1.N = W5 m c (Proc.devRef .tc (Pipeline.arrRef spec1 w))
  | 0 => kept1 m c 0 rfl (by decide)
  | 1 => kept1 m c 1 rfl (by decide)
  | 2 => kept1 m c 2 rfl (by decide)
  | 3 => kept1 m c 3 rfl (by decide)
  | 4 => kept1 m c 4 rfl (by decide)
  | 5 => kept1 m c 5 rfl (by decide)
  | 6 => kept1 m c 6 rfl (by decide)
  | 7 => kept1 m c 7 rfl (by decide)
  | 8 => kept1 m c 8 rfl (by decide)
  | 9 => kept1 m c 9 rfl (by decide)
  | 10 => (W5_at_0 m c).symm
  | 11 => (W5_at_1 m c).symm
  | 12 => (W5_at_2 m c).symm
  | 13 => (W5_at_3 m c).symm
  | 14 => (W5_at_4 m c).symm
  | 15 => (W5_at_5 m c).symm
  | 16 => (W5_at_6 m c).symm
  | 17 => (W5_at_7 m c).symm
  | ⟨_ + 18, h⟩ => absurd h (Nat.not_lt.2 (Nat.le_add_left _ _))

theorem kept2 (c : Dev nD) (w : Fin cfg2.W) (hin : (cfg2.win w).isOut = false)
    (h : Pipeline.arrRef spec2 w ∉ ([main_v138_0, main_v138_1, main_v138_2, main_v138_3, main_v138_4] : List (Ref sig .tc))) :
    (nms m c).arrAt w cfg2.N = W7 m c (Proc.devRef .tc (Pipeline.arrRef spec2 w)) :=
  ((nms m c).arrAt_in w hin _).trans ((nms_A m c w).trans (W7_of m c (Pipeline.arrRef spec2 w) h).symm)

set_option backward.isDefEq.respectTransparency.types false in
theorem out2 (c : Dev nD) : ∀ w : Fin cfg2.W, (nms m c).arrAt w cfg2.N = W7 m c (Proc.devRef .tc (Pipeline.arrRef spec2 w))
  | 0 => kept2 m c 0 rfl (by decide)
  | 1 => kept2 m c 1 rfl (by decide)
  | 2 => kept2 m c 2 rfl (by decide)
  | 3 => kept2 m c 3 rfl (by decide)
  | 4 => kept2 m c 4 rfl (by decide)
  | 5 => kept2 m c 5 rfl (by decide)
  | 6 => (W7_at_0 m c).symm
  | 7 => (W7_at_1 m c).symm
  | 8 => (W7_at_2 m c).symm
  | 9 => (W7_at_3 m c).symm
  | 10 => (W7_at_4 m c).symm
  | ⟨_ + 11, h⟩ => absurd h (Nat.not_lt.2 (Nat.le_add_left _ _))

/-- An argument is written by nothing. -/
theorem arg_kept (c : Dev nD) (r : Ref sig .tc) (h0 : r ∉ hostOps0_W) (h1 : r ∉ hostOps0_1_W) (h2 : r ∉ hostOps0_2_W)
    (h4 : r ∉ ([main_v130] : List (Ref sig .tc)))
    (h5 : r ∉ ([main_v131_0, main_v131_1, main_v131_2, main_v131_3, main_v131_4, main_v131_5, main_v131_6, main_v131_7] : List (Ref sig .tc)))
    (h6 : r ∉ hostOps2_W) (h7 : r ∉ ([main_v138_0, main_v138_1, main_v138_2, main_v138_3, main_v138_4] : List (Ref sig .tc)))
    (h8 : r ∉ hostOps3_W) : W8 m c r = m (c, Proc.devRef .tc r) :=
  (StableHlo.after_of_writes_sub hostOps3 _ hostOps3_writes h8).trans <| (W7_of m c r h7).trans <|
    (StableHlo.after_of_writes_sub hostOps2 _ hostOps2_writes h6).trans <| (W5_of m c r h5).trans <| (W4_of m c r h4).trans <|
    (V3_of m c r h2).trans <| (V2_of m c r h1).trans (V1_of m c r h0)

end Cert.Proof.KernelIdeal

end
-- ==== Proof.KernelIdeal.Run.lean ====
/-
  The whole program's run, its items joined: it ends, and every buffer then holds what the last item leaves in it.
-/
module

public import proofs.«01_k».proof.Proof.KernelIdeal.Contents

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The segments -/

/-- The regions' proof data. -/
def dats : (p : Fin 3) → (c : Dev nD) → Dat τ (Elt F) Unit ℕ (UR sig nD τ) ℕ (cfgs p) c
  | ⟨0, _⟩ => conv m
  | ⟨1, _⟩ => heads m
  | ⟨2, _⟩ => nms m

/-- Every counter of the TensorCores carries the one duty. -/
def L : GSem nD τ sig → Finset Unit := fun g => if g.1.2 = .tc then {()} else ∅
/-- At one level. -/
def lv : GSem nD τ sig → Unit → ℕ := fun _ _ => 0

/-- No core owes another anything, so any region may wait. -/
theorem cut (p : Fin 3) : Pipeline.LevelCut (pcfgs (F := F)) adm () L lv p (fun _ => 0) (fun _ => 0) where
  hι c w s := by unfold L; rw [if_pos rfl]; exact Finset.mem_singleton_self _
  hιb c w s := le_refl _
  hD c g i h := absurd h (by exact lt_irrefl 0)

/-- What rides beside the buffers: the generator register and the core's own dues, none. -/
abbrev E (c : Dev nD) : sProp 𝕄 := iprop((∃ r, prngReg c r) ∗ ∃ W, owes (c : Thread nD τ) (0 : CellTallies nD τ sig Unit) W)

/-- The held buffers split at a region's arrays. -/
theorem enter {A : Finset (DevRef τ sig)} (hA : A ⊆ Pipeline.ucRefs τ sig) (V : Valuation τ sig (Elt F)) (c : Dev nD) :
    iprop(StableHlo.held (c : Thread nD τ) (Pipeline.ucRefs τ sig) V ∗ E (F := F) c)
      ⊢ (iprop(StableHlo.held (c : Thread nD τ) A V ∗ (∃ r, prngReg c r)
        ∗ StableHlo.held (c : Thread nD τ) (Pipeline.ucRefs τ sig \ A) V ∗ ∃ W, owes (c : Thread nD τ) (0 : CellTallies nD τ sig Unit) W) : sProp 𝕄) := by
  rw [StableHlo.held_sub_split (c : Thread nD τ) hA V]
  iintro ⟨⟨Ha, Hr⟩, Hp, HO⟩
  isplitl [Ha]; · iexact Ha
  isplitl [Hp]; · iexact Hp
  isplitl [Hr]; · iexact Hr
  iexact HO

/-- And are joined again after it, the others unchanged. -/
theorem leave {A : Finset (DevRef τ sig)} (hA : A ⊆ Pipeline.ucRefs τ sig) (V V' : Valuation τ sig (Elt F)) (c : Dev nD)
    (h : ∀ b ∈ Pipeline.ucRefs τ sig \ A, V' b = V b) :
    (iprop(StableHlo.held (c : Thread nD τ) A V' ∗ (∃ r, prngReg c r)
        ∗ StableHlo.held (c : Thread nD τ) (Pipeline.ucRefs τ sig \ A) V ∗ ∃ W, owes (c : Thread nD τ) (0 : CellTallies nD τ sig Unit) W) : sProp 𝕄)
      ⊢ iprop(StableHlo.held (c : Thread nD τ) (Pipeline.ucRefs τ sig) V' ∗ E (F := F) c) := by
  rw [StableHlo.held_sub_split (c : Thread nD τ) hA V', StableHlo.held_congr (c : Thread nD τ) (S := Pipeline.ucRefs τ sig \ A) h]
  iintro ⟨Ha, Hp, Hr, HO⟩
  isplitl [Ha Hr]; · isplitl [Ha] <;> iassumption
  isplitl [Hp]; · iexact Hp
  iexact HO

set_option backward.isDefEq.respectTransparency.types false in
/-- The convolution's region. -/
def R0 : RegionSeg (pcfgs (F := F)) adm (dats m) () defs₀ Variants.none L lv 0 :=
  RegionSeg.ofHeld (pcfgs (F := F)) adm (dats m) () defs₀ Variants.none L lv 0 (fun _ => 0)
    (fun c => iprop(∃ r, prngReg c r)) (fun c => iprop(∃ r, prngReg c r)) launch0.toP rfl
    (fun c => (Conv.body_obligation Variants.none (atRef (V3 m)) c).loose) (fun _ _ => rfl) (fun _ => rfl)
    (fun c => (conv m c).share_full fun _ => rfl) (fun _ => .rfl) (fun _ => .rfl) (fun _ => 0) (cut 0)
    (fun c => StableHlo.held (c : Thread nD τ) (Pipeline.ucRefs τ sig \ Pipeline.arrRefs (τ := τ) spec0) (V3 m c))
    (V3 m) (W4 m) (fun _ _ => rfl) (out0 m)

theorem R0_arrs : Pipeline.arrRefs (τ := τ) spec0 ⊆ Pipeline.ucRefs τ sig := Pipeline.arrRefs_sub_ucRefs spec0 (by decide)

theorem R0_arr (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))

/-- Across the region the buffers it does not work on keep their contents. -/
theorem R0_rest (c : Dev nD) : ∀ b ∈ Pipeline.ucRefs τ sig \ Pipeline.arrRefs (τ := τ) spec0, W4 m c b = V3 m c b := fun b hb => by
  have hn : b ∉ Pipeline.arrRefs (τ := τ) spec0 := (Finset.mem_sdiff.mp hb).2
  have h0 : b ≠ Proc.devRef .tc main_v130 := by rintro rfl; exact hn (R0_arr 3)
  unfold W4
  rw [Function.update_of_ne h0]

theorem R0_enter (c : Dev nD) : iprop(StableHlo.held (c : Thread nD τ) (Pipeline.ucRefs τ sig) (V3 m c) ∗ E (F := F) c) ⊢ (R0 m).pre c :=
  enter R0_arrs (V3 m c) c

theorem R0_leave (c : Dev nD) : (R0 m).post c ⊢ iprop(StableHlo.held (c : Thread nD τ) (Pipeline.ucRefs τ sig) (W4 m c) ∗ E (F := F) c) :=
  leave R0_arrs (V3 m c) (W4 m c) c (R0_rest m c)

set_option backward.isDefEq.respectTransparency.types false in
/-- The heads' region. -/
def R1 : RegionSeg (pcfgs (F := F)) adm (dats m) () defs₀ Variants.none L lv 1 :=
  RegionSeg.ofHeld (pcfgs (F := F)) adm (dats m) () defs₀ Variants.none L lv 1 (fun _ => 0)
    (fun c => iprop(∃ r, prngReg c r)) (fun c => iprop(∃ r, prngReg c r)) launch1.toP rfl
    (fun c => (Heads.body_obligation Variants.none (atRef (W4 m)) c).loose) (fun _ _ => rfl) (fun _ => rfl)
    (fun c => (heads m c).share_full fun _ => rfl) (fun _ => .rfl) (fun _ => .rfl) (fun _ => 0) (cut 1)
    (fun c => StableHlo.held (c : Thread nD τ) (Pipeline.ucRefs τ sig \ Pipeline.arrRefs (τ := τ) spec1) (W4 m c))
    (W4 m) (W5 m) (fun _ _ => rfl) (out1 m)

theorem R1_arrs : Pipeline.arrRefs (τ := τ) spec1 ⊆ Pipeline.ucRefs τ sig := Pipeline.arrRefs_sub_ucRefs spec1 (by decide)

theorem R1_arr (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))

/-- Across the region the buffers it does not work on keep their contents. -/
theorem R1_rest (c : Dev nD) : ∀ b ∈ Pipeline.ucRefs τ sig \ Pipeline.arrRefs (τ := τ) spec1, W5 m c b = W4 m c b := fun b hb => by
  have hn : b ∉ Pipeline.arrRefs (τ := τ) spec1 := (Finset.mem_sdiff.mp hb).2
  have h0 : b ≠ Proc.devRef .tc main_v131_0 := by rintro rfl; exact hn (R1_arr 10)
  have h1 : b ≠ Proc.devRef .tc main_v131_1 := by rintro rfl; exact hn (R1_arr 11)
  have h2 : b ≠ Proc.devRef .tc main_v131_2 := by rintro rfl; exact hn (R1_arr 12)
  have h3 : b ≠ Proc.devRef .tc main_v131_3 := by rintro rfl; exact hn (R1_arr 13)
  have h4 : b ≠ Proc.devRef .tc main_v131_4 := by rintro rfl; exact hn (R1_arr 14)
  have h5 : b ≠ Proc.devRef .tc main_v131_5 := by rintro rfl; exact hn (R1_arr 15)
  have h6 : b ≠ Proc.devRef .tc main_v131_6 := by rintro rfl; exact hn (R1_arr 16)
  have h7 : b ≠ Proc.devRef .tc main_v131_7 := by rintro rfl; exact hn (R1_arr 17)
  unfold W5
  rw [Function.update_of_ne h7, Function.update_of_ne h6, Function.update_of_ne h5, Function.update_of_ne h4, Function.update_of_ne h3, Function.update_of_ne h2, Function.update_of_ne h1, Function.update_of_ne h0]

theorem R1_enter (c : Dev nD) : iprop(StableHlo.held (c : Thread nD τ) (Pipeline.ucRefs τ sig) (W4 m c) ∗ E (F := F) c) ⊢ (R1 m).pre c :=
  enter R1_arrs (W4 m c) c

theorem R1_leave (c : Dev nD) : (R1 m).post c ⊢ iprop(StableHlo.held (c : Thread nD τ) (Pipeline.ucRefs τ sig) (W5 m c) ∗ E (F := F) c) :=
  leave R1_arrs (W4 m c) (W5 m c) c (R1_rest m c)

set_option backward.isDefEq.respectTransparency.types false in
/-- The suppression's region. -/
def R2 : RegionSeg (pcfgs (F := F)) adm (dats m) () defs₀ Variants.none L lv 2 :=
  RegionSeg.ofHeld (pcfgs (F := F)) adm (dats m) () defs₀ Variants.none L lv 2 (fun _ => 0)
    (fun c => iprop(∃ r, prngReg c r)) (fun c => iprop(∃ r, prngReg c r)) launch2.toP rfl
    (fun c => (Nms.body_obligation Variants.none (atRef (W6 m)) c).loose) (fun _ _ => rfl) (fun _ => rfl)
    (fun c => (nms m c).share_full fun _ => rfl) (fun _ => .rfl) (fun _ => .rfl) (fun _ => 0) (cut 2)
    (fun c => StableHlo.held (c : Thread nD τ) (Pipeline.ucRefs τ sig \ Pipeline.arrRefs (τ := τ) spec2) (W6 m c))
    (W6 m) (W7 m) (fun _ _ => rfl) (out2 m)

theorem R2_arrs : Pipeline.arrRefs (τ := τ) spec2 ⊆ Pipeline.ucRefs τ sig := Pipeline.arrRefs_sub_ucRefs spec2 (by decide)

theorem R2_arr (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))

/-- Across the region the buffers it does not work on keep their contents. -/
theorem R2_rest (c : Dev nD) : ∀ b ∈ Pipeline.ucRefs τ sig \ Pipeline.arrRefs (τ := τ) spec2, W7 m c b = W6 m c b := fun b hb => by
  have hn : b ∉ Pipeline.arrRefs (τ := τ) spec2 := (Finset.mem_sdiff.mp hb).2
  have h0 : b ≠ Proc.devRef .tc main_v138_0 := by rintro rfl; exact hn (R2_arr 6)
  have h1 : b ≠ Proc.devRef .tc main_v138_1 := by rintro rfl; exact hn (R2_arr 7)
  have h2 : b ≠ Proc.devRef .tc main_v138_2 := by rintro rfl; exact hn (R2_arr 8)
  have h3 : b ≠ Proc.devRef .tc main_v138_3 := by rintro rfl; exact hn (R2_arr 9)
  have h4 : b ≠ Proc.devRef .tc main_v138_4 := by rintro rfl; exact hn (R2_arr 10)
  unfold W7
  rw [Function.update_of_ne h4, Function.update_of_ne h3, Function.update_of_ne h2, Function.update_of_ne h1, Function.update_of_ne h0]

theorem R2_enter (c : Dev nD) : iprop(StableHlo.held (c : Thread nD τ) (Pipeline.ucRefs τ sig) (W6 m c) ∗ E (F := F) c) ⊢ (R2 m).pre c :=
  enter R2_arrs (W6 m c) c

theorem R2_leave (c : Dev nD) : (R2 m).post c ⊢ iprop(StableHlo.held (c : Thread nD τ) (Pipeline.ucRefs τ sig) (W7 m c) ∗ E (F := F) c) :=
  leave R2_arrs (W6 m c) (W7 m c) c (R2_rest m c)

/-- The stretch between the heads and the suppression. -/
def stretch2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W5 m) (E (F := F))

/-- The last stretch. -/
def stretch3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W7 m) (E (F := F))

/-- The program's items in order. -/
abbrev items : List (Seg (pcfgs (F := F)) adm (dats m) () defs₀ Variants.none L lv) :=
  [.host (seg0 m Variants.none L lv fun _ => E (F := F)), .host (seg1 m Variants.none L lv fun _ => E (F := F)),
   .host (seg2 m Variants.none L lv fun _ => E (F := F)), .region (R0 m), .region (R1 m),
   .host (stretch2 m), .region (R2 m), .host (stretch3 m)]

set_option backward.isDefEq.respectTransparency.types false in
/-- The program runs to its end; every buffer that holds a value of the program is then at `W8`, every counter at zero. -/
theorem run (ρ : Dev nD → PrngReg) :
    θ_run defs (onTc (τ := τ) (main (F := F))) ⟨m, fun _ => 0, ρ⟩ (fun r =>
      (∀ (c : Dev nD), ∀ b ∈ Pipeline.ucRefs τ sig, r.2.mem (((c : Dev nD) : Thread nD τ).1, b) = W8 m c b) ∧ r.2.sem = fun _ => 0) := by
  refine Pipeline.θ_run_regions_kit_dev_sems (pcfgs (F := F)) adm (dats m) () cellOf_inj emb₁ defs₀ Variants.none L lv m ρ main
    (fun _ => items m)
    (fun c Q => by
      rewrite [main_chain c, Seg.run_eq_chain,
        show (items m).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (fun _ => 0)
    (fun g hg => by unfold L; rw [if_neg hg]) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ E (F := F) c))
    (Tₙ := fun c => StableHlo.held (c : Thread nD τ) (Pipeline.ucRefs τ sig) (W8 m c))
    (hch := fun c => ⟨.rfl, .rfl, .rfl, R0_enter m c, (R0_leave m c).trans (R1_enter m c), R1_leave m c, R2_enter m c, R2_leave m c,
      sep_mono .rfl (by iintro ⟨-, HO⟩; iexact HO)⟩)
    (hinit := ?_) (QY := fun c s => ∀ b ∈ Pipeline.ucRefs τ sig, s.mem ((c : Thread nD τ).1, b) = W8 m c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (W8 m c) s') $$ [Hh HSI]
    · isplitl [Hh] <;> iassumption
    icases Hr with ⟨%h, HSI⟩
    imodintro
    isplitr; · ipureintro; exact h
    iexact HSI

/-- A buffer of the TensorCore that holds a value of the program is among those read off at the end. -/
theorem mem_held (b : Ref sig .tc) (h : (Proc.devRef .tc b : DevRef τ sig).isScoped = false) : (Proc.devRef .tc b : DevRef τ sig) ∈ Pipeline.ucRefs τ sig :=
  Finset.mem_filter.mpr ⟨StableHlo.devRef_mem_tcRefs b, by rw [h]; decide⟩

end Cert.Proof.KernelIdeal

end
-- ==== Proof.ReferenceIdeal.Lines.lean ====
/-
  The reference as lines of array operations: each printed window of its main function and of its loop's body is a
  list of operations run in order, and the main function is four such lists, the loop, and one more list.
-/
module

public import proofs.«01_k».proof.ReferenceIdeal
public import Idealize.ShloMosaic.Lib.StableHlo.RunLoop
public import Idealize.ShloMosaic.Lib.StableHlo.RunRead
public import Idealize.ShloMosaic.Lib.Pipeline.Kit
public import Idealize.ShloMosaic.Lib.Scf

@[expose] public section

set_option maxRecDepth 100000
set_option maxHeartbeats 4000000
set_option synthInstance.maxSize 4096

noncomputable section

namespace Cert.Proof.ReferenceIdeal

open Cert.ReferenceIdeal
open Idealize.ShloMosaic Idealize.SL.Sem Idealize.ShloMosaic.StableHlo

/-- The shape facts the reference states, each by computation. -/
instance facts₀ : Cert.ReferenceIdeal.Facts₀ := by constructor <;> decide

/-- The reference states nothing besides its shape facts. -/
instance facts : Cert.ReferenceIdeal.Facts := {}

section Reading

variable {nD : Nat} {τ : Topo} {sig : RefSig} {Val : EltTy → Type} {Λ : Labels}

/-- The program `p` runs the operations `ops` in order and goes on as `q`. -/
def Runs (p : Prog (TpuEff nD τ sig Val Λ .tc) PUnit) (ops : List (HloOp τ sig Val)) (q : Prog (TpuEff nD τ sig Val Λ .tc) PUnit) : Prop :=
  p = (seq ops >>= fun _ => q)

variable {p p' k q : Prog (TpuEff nD τ sig Val Λ .tc) PUnit} {ops : List (HloOp τ sig Val)}

/-- A program runs nothing and goes on as itself. -/
theorem Runs.done : Runs q ([] : List (HloOp τ sig Val)) q := rfl

/-- One operation before a program that runs `ops`. -/
theorem Runs.cons {op : HloOp τ sig Val} (h : Runs k ops q) :
    Runs ((hlo rfl op fun _ => .ret (⟨⟩ : PUnit)) >>= fun _ => k) (op :: ops) q := by
  unfold Runs at h ⊢; rw [h]; rfl

/-- One operation at the end of a program. -/
theorem Runs.last {op : HloOp τ sig Val} :
    Runs (hlo rfl op fun _ => .ret (⟨⟩ : PUnit)) [op] (pure ⟨⟩ : Prog (TpuEff nD τ sig Val Λ .tc) PUnit) := rfl

/-- A return in the middle of a program is skipped. -/
theorem Runs.skip (h : Runs k ops q) : Runs ((pure ⟨⟩ : Prog (TpuEff nD τ sig Val Λ .tc) PUnit) >>= fun _ => k) ops q := h

/-- A called function's statements are the caller's, in place. -/
theorem Runs.call (h : Runs (p >>= fun _ => (p' >>= fun _ => k)) ops q) : Runs ((p >>= fun _ => p') >>= fun _ => k) ops q := by
  unfold Runs at h ⊢; rw [← h, bind_assoc]

end Reading

variable {F : FTy → Type} [FloatOps F]

/-- The programs of the reference's main function. -/
abbrev HProg (F : FTy → Type) [FloatOps F] : Type 1 :=
  Prog (TpuEff nD τ sig (Elt F) (HostLoop.Sig (Pipeline.Sig Λ₀ (Fin 0) fun p => (pcfgs (F := F) p).Adm) 1) .tc) PUnit

/-- The operations of one line. -/
abbrev Ops (F : FTy → Type) [FloatOps F] : Type _ := List (HloOp τ sig (Elt F))

/-- The main function's first window: padding, nine shifted products and their sum. -/
def line0 : {ops : Ops F // ∀ d, Runs (main_part0 (F := F) d) ops (pure ⟨⟩)} :=
  by
    apply Subtype.mk
    intro d
    unfold main_part0 fn_pad.body fn_relu.body
    repeat (first | with_reducible exact Runs.done | with_reducible exact Runs.last | with_reducible apply Runs.cons | with_reducible apply Runs.call | with_reducible apply Runs.skip)

/-- The main function's second window: the two heads, the softmax and the anchors. -/
def line1 : {ops : Ops F // ∀ d, Runs (main_part1 (F := F) d) ops (pure ⟨⟩)} :=
  by
    apply Subtype.mk
    intro d
    unfold main_part1
    repeat (first | with_reducible exact Runs.done | with_reducible exact Runs.last | with_reducible apply Runs.cons | with_reducible apply Runs.call | with_reducible apply Runs.skip)

/-- The main function's third window: the decoding of boxes and the clipping. -/
def line2 : {ops : Ops F // ∀ d, Runs (main_part2 (F := F) d) ops (pure ⟨⟩)} :=
  by
    apply Subtype.mk
    intro d
    unfold main_part2 fn_clip.body
    repeat (first | with_reducible exact Runs.done | with_reducible exact Runs.last | with_reducible apply Runs.cons | with_reducible apply Runs.call | with_reducible apply Runs.skip)

/-- The zeros returned as batch indices, after the loop. -/
def line4 : Ops F :=
  [nullary main_cst_23 (constant S_ .f32 0x00000000#32),
    unary main_cst_23 main_v183 (broadcastInDim S2000 ![] Facts₀.bcast_S_S2000 : (⟨S_, .f32⟩ : BufTy).Contents (Elt F) → (⟨S2000, .f32⟩ : BufTy).Contents (Elt F))]

/-- The main function's last window: the size filter, the boxes' columns and areas, what the loop starts from, and the
    loop; then the zeros. -/
def line3 : {ops : Ops F // ∀ d, Runs (main_part3 (F := F) d) ops (HostLoop.enter 0 >>= fun _ => seq line4)} :=
  by
    apply Subtype.mk
    intro d
    unfold main_part3 fn_where.body
    repeat (first | with_reducible apply Runs.cons | with_reducible apply Runs.call | with_reducible apply Runs.skip)
    exact Runs.done

/-- The loop body's first window: the best remaining score and its row. -/
def body0 : {ops : Ops F // Runs (main_while0_body_part0 (F := F)) ops (pure ⟨⟩)} :=
  by
    apply Subtype.mk
    unfold main_while0_body_part0 fn_argmax.body fn_where_0.body
    repeat (first | with_reducible exact Runs.done | with_reducible exact Runs.last | with_reducible apply Runs.cons | with_reducible apply Runs.call | with_reducible apply Runs.skip)

/-- The loop body's second window: overlaps with that row, and the scores that remain. -/
def body1 : {ops : Ops F // Runs (main_while0_body_part1 (F := F)) ops (pure ⟨⟩)} :=
  by
    apply Subtype.mk
    unfold main_while0_body_part1 fn_where.body
    repeat (first | with_reducible exact Runs.done | with_reducible exact Runs.last | with_reducible apply Runs.cons | with_reducible apply Runs.call | with_reducible apply Runs.skip)

/-- The loop body's last window: the carried values are replaced. -/
def body2 : {ops : Ops F // Runs (main_while0_body_part2 (F := F)) ops (pure ⟨⟩)} :=
  by
    apply Subtype.mk
    unfold main_while0_body_part2
    repeat (first | with_reducible exact Runs.done | with_reducible exact Runs.last | with_reducible apply Runs.cons | with_reducible apply Runs.call | with_reducible apply Runs.skip)

end Cert.Proof.ReferenceIdeal

end
-- ==== Proof.ReferenceIdeal.Plain.lean ====
/-
  The lines of the reference as lists of operations: the main function and the loop's body are their chains, and every
  operation works on the core's own buffers and allocates nothing.
-/
module

public import proofs.«01_k».proof.Proof.ReferenceIdeal.Lines
import Idealize.ShloMosaic.Lib.Tactic
import Idealize.ShloMosaic.Lib.Scf.Counter
import Idealize.ShloMosaic.Lib.Scf.ExitTest

@[expose] public section

set_option maxRecDepth 100000
set_option maxHeartbeats 4000000
set_option synthInstance.maxSize 4096

noncomputable section

namespace Cert.Proof.ReferenceIdeal

open Cert.ReferenceIdeal
open Idealize.ShloMosaic Idealize.SL.Sem Idealize.ShloMosaic.StableHlo
open Idealize.SL Idealize.SL.RA Idealize.SL.BI
open scoped Idealize.SL.BI
open Idealize.SL.BI.BIBase Idealize.SL.BI.Laws Idealize.SL.ProofMode
open Idealize.ShloMosaic.Pipeline (ucRefs sub_ucRefs)
open TcCoe

variable {F : FTy → Type} [FloatOps F]

/-- The lines before the loop. -/
abbrev preI : List (Ops F) := [line0.1, line1.1, line2.1, line3.1]
/-- The lines of the loop's body. -/
abbrev bodyI : List (Ops F) := [body0.1, body1.1, body2.1]
/-- The line after the loop. -/
abbrev postI : List (Ops F) := [line4]
/-- The loop's condition: the trip counter against two thousand. -/
abbrev condOps : Ops F :=
  [StableHlo.nullary main_while0c_c_34 (constantI S_ 32 2000#32),
   StableHlo.binary main_v182_6 main_while0c_c_34 main_while0c_v184 (cmpi .slt : (⟨S_, .i32⟩ : BufTy).Contents (Elt F) → (⟨S_, .i32⟩ : BufTy).Contents (Elt F) → (⟨S_, .i1⟩ : BufTy).Contents (Elt F))]

/-- A program that ends by returning nothing is itself. -/
theorem bind_unit (p : HProg F) : (p >>= fun _ => (pure ⟨⟩ : HProg F)) = p := bind_pure p

/-- The main function is the chain of its lines and the loop. -/
theorem main_eq (c : Dev nD) : main (F := F) c
    = Pipeline.chain ((preI.map fun ops => (seq ops : HProg F)) ++ HostLoop.enter 0 :: postI.map fun ops => (seq ops : HProg F)) := by
  have h0 := (line0 (F := F)).2 c
  have h1 := (line1 (F := F)).2 c
  have h2 := (line2 (F := F)).2 c
  have h3 := (line3 (F := F)).2 c
  unfold Runs at h0 h1 h2 h3
  unfold main
  rw [h0, h1, h2, h3]
  simp only [bind_unit, List.map_cons, List.map_nil, List.cons_append, List.nil_append, Pipeline.chain_cons, Pipeline.chain_nil]

/-- The loop's body is the chain of its lines. -/
theorem body_eq : main_while0_body (F := F) = Pipeline.chain (bodyI.map fun ops => (seq ops : HProg F)) := by
  have h0 := (body0 (F := F)).2
  have h1 := (body1 (F := F)).2
  have h2 := (body2 (F := F)).2
  unfold Runs at h0 h1 h2
  unfold main_while0_body
  rw [h0, h1, h2]
  simp only [bind_unit, List.map_cons, List.map_nil, Pipeline.chain_cons, Pipeline.chain_nil]

/-- Every operation of a list works on the core's own buffers: operation by operation. -/
theorem plain_line {ops : Ops F} {rest : List (Ops F)} (hs : ops.Forall fun op => op.bufs ⊆ tcRefs τ sig)
    (hf : ops.map HloOp.fresh = ops.map fun _ => (∅ : Finset (DevRef τ sig))) (h : Plain rest) : Plain (ops :: rest) :=
  .cons hs h fun op ho => (List.forall_iff_forall_mem.mp (forall_fresh_of_map hf)) op ho

/-- The first window works on the core's own buffers. -/
theorem sub0 : (line0 (F := F)).1.Forall fun op => op.bufs ⊆ tcRefs τ sig := by
  unfold line0
  simp only [List.forall_cons, List.Forall, nullary_bufs_sub, unary_bufs_sub, binary_bufs_sub, reshape_bufs_sub, ternary_bufs_sub,
    nary_bufs_sub, quaternary_bufs_sub, unaryIndexed_bufs_sub, and_true]

/-- So does the second. -/
theorem sub1 : (line1 (F := F)).1.Forall fun op => op.bufs ⊆ tcRefs τ sig := by
  unfold line1
  simp only [List.forall_cons, List.Forall, nullary_bufs_sub, unary_bufs_sub, binary_bufs_sub, reshape_bufs_sub, ternary_bufs_sub,
    nary_bufs_sub, quaternary_bufs_sub, unaryIndexed_bufs_sub, and_true]

/-- So does the third. -/
theorem sub2 : (line2 (F := F)).1.Forall fun op => op.bufs ⊆ tcRefs τ sig := by
  unfold line2
  simp only [List.forall_cons, List.Forall, nullary_bufs_sub, unary_bufs_sub, binary_bufs_sub, reshape_bufs_sub, ternary_bufs_sub,
    nary_bufs_sub, quaternary_bufs_sub, unaryIndexed_bufs_sub, and_true]

/-- So does the line up to the loop. -/
theorem sub3 : (line3 (F := F)).1.Forall fun op => op.bufs ⊆ tcRefs τ sig := by
  unfold line3
  simp only [List.forall_cons, List.Forall, nullary_bufs_sub, unary_bufs_sub, binary_bufs_sub, reshape_bufs_sub, ternary_bufs_sub,
    nary_bufs_sub, quaternary_bufs_sub, unaryIndexed_bufs_sub, and_true]

/-- So does the line after it. -/
theorem sub4 : (line4 (F := F)).Forall fun op => op.bufs ⊆ tcRefs τ sig := by
  unfold line4
  simp only [List.forall_cons, List.Forall, nullary_bufs_sub, unary_bufs_sub, binary_bufs_sub, reshape_bufs_sub, ternary_bufs_sub,
    nary_bufs_sub, quaternary_bufs_sub, unaryIndexed_bufs_sub, and_true]

/-- So does the loop body's first window. -/
theorem subB0 : (body0 (F := F)).1.Forall fun op => op.bufs ⊆ tcRefs τ sig := by
  unfold body0
  simp only [List.forall_cons, List.Forall, nullary_bufs_sub, unary_bufs_sub, binary_bufs_sub, reshape_bufs_sub, ternary_bufs_sub,
    nary_bufs_sub, quaternary_bufs_sub, unaryIndexed_bufs_sub, and_true]

/-- So does its second. -/
theorem subB1 : (body1 (F := F)).1.Forall fun op => op.bufs ⊆ tcRefs τ sig := by
  unfold body1
  simp only [List.forall_cons, List.Forall, nullary_bufs_sub, unary_bufs_sub, binary_bufs_sub, reshape_bufs_sub, ternary_bufs_sub,
    nary_bufs_sub, quaternary_bufs_sub, unaryIndexed_bufs_sub, and_true]

/-- So does its last. -/
theorem subB2 : (body2 (F := F)).1.Forall fun op => op.bufs ⊆ tcRefs τ sig := by
  unfold body2
  simp only [List.forall_cons, List.Forall, nullary_bufs_sub, unary_bufs_sub, binary_bufs_sub, reshape_bufs_sub, ternary_bufs_sub,
    nary_bufs_sub, quaternary_bufs_sub, unaryIndexed_bufs_sub, and_true]

/-- The lines before the loop allocate nothing and work on the core's own buffers. -/
theorem plain_pre : Plain (preI (F := F)) :=
  plain_line sub0 rfl (plain_line sub1 rfl (plain_line sub2 rfl (plain_line sub3 rfl .nil)))

/-- So do the lines of the loop's body. -/
theorem plain_body : Plain (bodyI (F := F)) :=
  plain_line subB0 rfl (plain_line subB1 rfl (plain_line subB2 rfl .nil))

/-- So does the line after it. -/
theorem plain_post : Plain (postI (F := F)) := plain_line sub4 rfl .nil

end Cert.Proof.ReferenceIdeal

end
-- ==== Proof.ReferenceIdeal.Trips.lean ====
/-
  What the reference's trip counter and its arguments hold before every trip round the loop.
-/
module

public import proofs.«01_k».proof.Proof.ReferenceIdeal.Plain
import Idealize.ShloMosaic.Lib.Tactic
import Idealize.ShloMosaic.Lib.Scf.Counter
import Idealize.ShloMosaic.Lib.Scf.ExitTest

@[expose] public section

set_option maxRecDepth 100000
set_option maxHeartbeats 4000000
set_option synthInstance.maxSize 4096

noncomputable section

namespace Cert.Proof.ReferenceIdeal

open Cert.ReferenceIdeal
open Idealize.ShloMosaic Idealize.SL.Sem Idealize.ShloMosaic.StableHlo
open Idealize.SL Idealize.SL.RA Idealize.SL.BI
open scoped Idealize.SL.BI
open Idealize.SL.BI.BIBase Idealize.SL.BI.Laws Idealize.SL.ProofMode
open Idealize.ShloMosaic.Pipeline (ucRefs sub_ucRefs)
open TcCoe

variable {F : FTy → Type} [FloatOps F]

variable (m : (ℓ : Loc nD τ sig) → Buf (Elt F) ℓ)

/-- Every buffer before the `k`-th run of the loop's condition. -/
abbrev atK (k : ℕ) (c : Dev nD) : Valuation τ sig (Elt F) := atTrip condOps bodyI (entryContents preI m) k c

/-- One trip: the condition's two operations and the body's three lines. -/
theorem atK_succ (k : ℕ) (c : Dev nD) :
    atK m (k + 1) c = after body2.1 (after body1.1 (after body0.1 (after condOps (atK m k c)))) := rfl

/-- The final contents: the line after the loop over the buffers after the last trip. -/
theorem final_eq (c : Dev nD) : finalContents condOps preI bodyI postI 2000 m c = after line4 (after condOps (atK m 2000 c)) := rfl

/-- The trip counter starts at zero. -/
theorem counter_zero (c : Dev nD) : atK m 0 c (Proc.devRef .tc main_v182_6) = fun _ => 0#32 := by
  show after line3.1 (after line2.1 (after line1.1 (after line0.1 (launchContents m c)))) (Proc.devRef .tc main_v182_6) = _
  generalize after line1.1 (after line0.1 (launchContents m c)) = V
  unfold line3 line2
  after_reads_simp
  rfl

/-- A trip adds one to the trip counter. -/
theorem counter_trip (V : Valuation τ sig (Elt F)) :
    after body2.1 (after body1.1 (after body0.1 (after condOps V))) (Proc.devRef .tc main_v182_6)
      = addi (V (Proc.devRef .tc main_v182_6)) (constantI S_ 32 1#32) := by
  unfold body2 body1 body0
  after_reads_simp
  rfl

/-- Before the `k`-th trip the counter is `k`. -/
theorem counter (c : Dev nD) : ∀ k, atK m k c (Proc.devRef .tc main_v182_6) = fun _ => Scf.iv 0#32 1#32 k
  | 0 => by rw [counter_zero, Scf.iv_zero]
  | k + 1 => by rw [atK_succ, counter_trip, counter c k, Scf.iv_succ]; rfl

/-- The eight arguments. -/
abbrev args : List (Ref sig .tc) := [main_arg0, main_arg1, main_arg2, main_arg3, main_arg4, main_arg5, main_arg6, main_arg7]

/-- No trip writes an argument. -/
theorem trip_args {b : Ref sig .tc} (h : b ∈ args) (V : Valuation τ sig (Elt F)) :
    after body2.1 (after body1.1 (after body0.1 (after condOps V))) (Proc.devRef .tc b) = V (Proc.devRef .tc b) := by
  unfold body2 body1 body0
  simp only [args, List.mem_cons, List.not_mem_nil, or_false] at h
  rcases h with rfl | rfl | rfl | rfl | rfl | rfl | rfl | rfl <;> after_reads_simp

/-- No line before the loop writes an argument. -/
theorem pre_args {b : Ref sig .tc} (h : b ∈ args) (V : Valuation τ sig (Elt F)) :
    after line3.1 (after line2.1 (after line1.1 (after line0.1 V))) (Proc.devRef .tc b) = V (Proc.devRef .tc b) := by
  unfold line3 line2 line1 line0
  simp only [args, List.mem_cons, List.not_mem_nil, or_false] at h
  rcases h with rfl | rfl | rfl | rfl | rfl | rfl | rfl | rfl <;> after_reads_simp

/-- Nor does the line after it. -/
theorem post_args {b : Ref sig .tc} (h : b ∈ args) (V : Valuation τ sig (Elt F)) :
    after line4 (after condOps V) (Proc.devRef .tc b) = V (Proc.devRef .tc b) := by
  unfold line4
  simp only [args, List.mem_cons, List.not_mem_nil, or_false] at h
  rcases h with rfl | rfl | rfl | rfl | rfl | rfl | rfl | rfl <;> after_reads_simp

/-- An argument is never written: before every trip it is as launched. -/
theorem atK_args {b : Ref sig .tc} (h : b ∈ args) (c : Dev nD) : ∀ k, atK m k c (Proc.devRef .tc b) = m ((c.tc : Thread nD τ).loc b)
  | 0 => pre_args h _
  | k + 1 => by rw [atK_succ, trip_args h, atK_args h c k]

/-- Every argument ends as launched. -/
theorem final_args {b : Ref sig .tc} (h : b ∈ args) (c : Dev nD) :
    finalContents condOps preI bodyI postI 2000 m c (Proc.devRef .tc b) = m ((c.tc : Thread nD τ).loc b) := by
  rw [final_eq, post_args h, atK_args m h]

end Cert.Proof.ReferenceIdeal

end
-- ==== Proof.ReferenceIdeal.Run.lean ====
/-
  The reference runs to its end: its straight lines, two thousand trips round its loop, and the line after. Every buffer
  holds what folding those operations over the launch contents gives, and no argument is written.
-/
module

public import proofs.«01_k».proof.Proof.ReferenceIdeal.Trips
import Idealize.ShloMosaic.Lib.Tactic
import Idealize.ShloMosaic.Lib.Scf.Counter
import Idealize.ShloMosaic.Lib.Scf.ExitTest

@[expose] public section

set_option maxRecDepth 100000
set_option maxHeartbeats 4000000
set_option synthInstance.maxSize 4096

noncomputable section

namespace Cert.Proof.ReferenceIdeal

open Cert.ReferenceIdeal
open Idealize.ShloMosaic Idealize.SL.Sem Idealize.ShloMosaic.StableHlo
open Idealize.SL Idealize.SL.RA Idealize.SL.BI
open scoped Idealize.SL.BI
open Idealize.SL.BI.BIBase Idealize.SL.BI.Laws Idealize.SL.ProofMode
open Idealize.ShloMosaic.Pipeline (ucRefs sub_ucRefs)
open TcCoe

variable {F : FTy → Type} [FloatOps F]

variable (m : (ℓ : Loc nD τ sig) → Buf (Elt F) ℓ)

set_option backward.isDefEq.respectTransparency.types false in
/-- The loop's condition holds exactly before the first two thousand trips. -/
theorem cond_spec : CondSpec (pcfgs (F := F)) defs₀ loops (main_while0_cond (F := F)) condOps bodyI (entryContents preI m) 2000 := by
  intro k hk c bd
  have hctr := counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v182_6 HostLoop.idx0)
        (HloOp.result _ (atK m k c) main_while0c_c_34 HostLoop.idx0) = 1#1) (k < 2000)
    rw [nullary_result_ne _ _ _ _ (by decide), nullary_result, hctr]
    exact Scf.cmpi_slt_iv_ub_iff (lb := 0#32) (ub := 2000#32) (st := 1#32) (by decide) (show k ≤ Scf.trips 0#32 2000#32 1#32 from hk)
  isplitl [Hb]; · iexact Hb
  rw [after_cons, after_cons, after_nil]; iexact Hh

/-- The reference runs to its end, every buffer at the fold of its operations over the launch contents. -/
theorem run (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = finalContents condOps preI bodyI postI 2000 m c (Proc.devRef .tc b)) :=
  run_loop (pcfgs (F := F)) defs₀ loops main 0 main_while0_cond main_while0_body rfl preI bodyI postI condOps
    plain_pre plain_body plain_post main_eq body_eq 2000 m ρ (cond_spec m)

end Cert.Proof.ReferenceIdeal

end
-- ==== Proof.Frames.lean ====
/-
  The frames: each of the three programs runs to its end, leaves its arguments as they were and every counter at zero.
-/
module

public import proofs.«01_k».proof.Defs
public import proofs.«01_k».proof.Proof.Kernel.Run
public import proofs.«01_k».proof.Proof.KernelIdeal.Run
public import proofs.«01_k».proof.Proof.ReferenceIdeal.Run

@[expose] public section

set_option maxRecDepth 16384

noncomputable section

namespace Cert.Proof

open Idealize.ShloMosaic Idealize.SL.Sem Idealize.ShloMosaic.StableHlo
open TcCoe

/-- The kernel's frame: nothing it writes is an argument. -/
theorem frame_kernel : Cert.quiescent_Kernel (hKernel := Cert.Kernel.Gen.facts) := fun m ρ _ =>
  (θ_run Cert.Kernel.defs _ _).mono (fun r h => ⟨fun c => by
      refine ⟨?_, ?_, ?_, ?_, ?_, ?_, ?_, ?_⟩ <;>
      exact (h.1 c _ (Kernel.mem_held _ rfl)).trans (Kernel.arg_kept m c _ (by decide) (by decide) (by decide) (by decide) (by decide)
        (by decide) (by decide) (by decide)), h.2⟩)
    (Kernel.run (F := Bits) m ρ)

/-- The same of the kernel over exact values. -/
theorem frame_ideal : Cert.quiescent_KernelIdeal (hKernelIdeal := Cert.KernelIdeal.Gen.facts) := fun m ρ _ =>
  (θ_run Cert.KernelIdeal.defs _ _).mono (fun r h => ⟨fun c => by
      refine ⟨?_, ?_, ?_, ?_, ?_, ?_, ?_, ?_⟩ <;>
      exact (h.1 c _ (KernelIdeal.mem_held _ rfl)).trans (KernelIdeal.arg_kept m c _ (by decide) (by decide) (by decide) (by decide)
        (by decide) (by decide) (by decide) (by decide)), h.2⟩)
    (KernelIdeal.run (F := Ideal) m ρ)

/-- The reference's frame; it has no counter at all. -/
theorem frame_reference : Cert.quiescent_ReferenceIdeal (hReferenceIdeal := Cert.Proof.ReferenceIdeal.facts) := fun m ρ _ =>
  (θ_run Cert.ReferenceIdeal.defs _ _).mono (fun r h => ⟨fun c => by
      refine ⟨?_, ?_, ?_, ?_, ?_, ?_, ?_, ?_⟩ <;>
      exact (h c _ rfl).trans (ReferenceIdeal.final_args m (by decide) c), sem_eq_zero_of_no_sems (by decide) r.2⟩)
    (ReferenceIdeal.run (F := Ideal) m ρ)

end Cert.Proof

end
-- ==== Proof.Math.lean ====
/-
  The mathematics both programs compute before the suppression, over the extended reals: a 3×3 convolution of a zero-bordered
  image as nine sums over channels, a bias and a positive part; two 1×1 convolutions on top; and the anchors' coordinates.
-/
module

public import Idealize.ShloMosaic.PureOps.Ideal
public import Idealize.ShloMosaic.Lib.Pointwise

@[expose] public section

noncomputable section

namespace Cert.Proof.Math

open Idealize.ShloMosaic

/-- The image with a border of zeros one pixel wide. -/
def padded (x : (⟨4, ![1, 256, 64, 64]⟩ : Shape).Idx → EReal) (ch : Fin 256) (i j : ℕ) : EReal :=
  if h : (1 ≤ i ∧ i < 65) ∧ (1 ≤ j ∧ j < 65) then x (ix4 0 ch ⟨i - 1, by omega⟩ ⟨j - 1, by omega⟩) else 0

/-- One of the nine sums over channels: the one at offset `(k / 3, k % 3)`. -/
def tap (x : (⟨4, ![1, 256, 64, 64]⟩ : Shape).Idx → EReal) (w : (⟨4, ![256, 256, 3, 3]⟩ : Shape).Idx → EReal)
    (o : Fin 256) (i j : Fin 64) (k : Fin 9) : EReal :=
  ∑ ch : Fin 256, w (ix4 o ch ⟨k.val / 3, by omega⟩ ⟨k.val % 3, by omega⟩) * padded x ch (i.val + k.val / 3) (j.val + k.val % 3)

/-- The features: the nine sums, the bias, and the positive part. -/
def hid (x : (⟨4, ![1, 256, 64, 64]⟩ : Shape).Idx → EReal) (w : (⟨4, ![256, 256, 3, 3]⟩ : Shape).Idx → EReal)
    (b : (⟨1, ![256]⟩ : Shape).Idx → EReal) (o : Fin 256) (i j : Fin 64) : EReal :=
  max (tap x w o i j 0 + tap x w o i j 1 + tap x w o i j 2 + tap x w o i j 3 + tap x w o i j 4 + tap x w o i j 5
    + tap x w o i j 6 + tap x w o i j 7 + tap x w o i j 8 + b (ix1 o)) 0

/-- A 1×1 convolution of the features: output channel `o` at a pixel. -/
def head {n : ℕ} (h : Fin 256 → Fin 64 → Fin 64 → EReal) (w : (⟨4, ![n, 256, 1, 1]⟩ : Shape).Idx → EReal)
    (b : (⟨1, ![n]⟩ : Shape).Idx → EReal) (o : Fin n) (i j : Fin 64) : EReal :=
  ∑ c : Fin 256, w (ix4 o c 0 0) * h c i j + b (ix1 o)

/-- A coordinate of an anchor: its box's around the origin, plus sixteen times its pixel's column or row. -/
def anchor (base : Fin 36 → BitVec 32) (n : Fin 36864) (d : Fin 4) : EReal :=
  Ideal.ofBits FTy.f32 (base ((⟨3, ![1, 9, 4]⟩ : Shape).rowMajor (ix3 0 ⟨n.val % 9, Nat.mod_lt _ (by norm_num)⟩ d)))
    + FloatOps.sitofp (F := Ideal) FTy.f32 (IntOp.muli (BitVec.ofNat 32 (if d.val % 2 = 0 then n.val / 9 % 64 else n.val / 9 / 64)) 16#32)

end Cert.Proof.Math

end
-- ==== Proof.KernelIdeal.HostValue.lean ====
/-
  What the kernel's launches find in their input arrays, read entry by entry off the arguments: the nine shifted images and
  weight blocks of the convolution, the heads' weights and biases with their columns reordered, and the anchors.
-/
module

public import proofs.«01_k».proof.Proof.Math
public import proofs.«01_k».proof.Proof.Gen.KernelIdeal.Regions
public import Idealize.ShloMosaic.Lib.StableHlo.ReadAt
public import Idealize.ShloMosaic.PureOps.Ideal
import Idealize.ShloMosaic.Lib.Tactic
import Idealize.ShloMosaic.Lib.Pointwise
import Idealize.ShloMosaic.Lib.Routing.OpsSet

@[expose] public section

set_option maxRecDepth 100000
set_option maxHeartbeats 4000000

noncomputable section

namespace Cert.Proof.KernelIdeal.Host

open Cert.KernelIdeal Cert.KernelIdeal.Gen
open Idealize.ShloMosaic Idealize.ShloMosaic.TcCoe Idealize.ShloMosaic.Tactic Idealize.ShloMosaic.StableHlo

variable (V : Valuation τ sig (Elt Ideal))

/-- The image with its border. -/
theorem pad (i j : Fin 66) (ch : Fin 256) : after hostOps0_1 (after hostOps0 V) main_v25 (ix3 i j ch) = Math.padded (V main_arg0) ch i j := by
  unfold Math.padded
  after_reads_at
  have hz : FloatOps.sitofp (F := Ideal) FTy.f32 0#32 = (0 : EReal) := by
    show (((0#32 : BitVec 32).toInt : ℝ) : EReal) = 0
    simp
  rw [hz]
  have e : ((1 ≤ i.val ∧ i.val - 1 < 64) ∧ 1 ≤ j.val ∧ j.val - 1 < 64) ↔ ((1 ≤ i.val ∧ i.val < 65) ∧ 1 ≤ j.val ∧ j.val < 65) := by omega
  simp only [e]

/-- The nine shifted images are slices of the bordered one. -/
theorem taps (k : Fin 9) (p : Fin 4096) (ch : Fin 256) :
    after hostOps0_2 V main_v53 (ix3 k p ch)
      = V main_v25 (ix3 ⟨p.val / 64 + k.val / 3, by omega⟩ ⟨p.val % 64 + k.val % 3, by omega⟩ ch) := by
  after_reads_at
  fin_vals k with hk
  all_goals simp only [hk, Nat.reduceSub, Nat.reduceLT, ↓reduceDIte]
  all_goals after_reads_at
  all_goals simp only [Nat.add_comm]

/-- The nine weight blocks are the convolution's weights at one offset each. -/
theorem weights (k : Fin 9) (ch o : Fin 256) :
    after hostOps0_2 V main_v90 (ix3 k ch o)
      = V main_arg1 (ix4 o ch ⟨k.val / 3, by omega⟩ ⟨k.val % 3, by omega⟩) := by
  after_reads_at
  fin_vals k with hk
  all_goals simp only [hk, Nat.reduceSub, Nat.reduceLT, ↓reduceDIte]
  all_goals after_reads_at

/-- The convolution's bias. -/
theorem bias (o : Fin 256) : after hostOps0_2 V main_v129 (ix2 0 o) = V main_arg2 (ix1 o) := by
  after_reads_at

section Gather
variable {α : Type}

/-- The dimension numbers of `x[:, idx]` for a table `[R, N]` and `n` column numbers. -/
abbrev colDims (R N n : ℕ) (wf : GatherDims.WF ⟨2, ![R, N]⟩ ⟨2, ![n, 1]⟩ ⟨2, ![R, n]⟩ [0] [1] [] [1] [] 1 ![R, 1]) :
    GatherDims ⟨2, ![R, N]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- Entry `(r, q)` of `x[:, idx]` is entry `(r, b)` of the table, where `idx` holds the number `b` at `q`. -/
theorem gather_col {R N n : ℕ} (wf) (x : (⟨2, ![R, N]⟩ : Shape).Idx → α) (idx : IVec ⟨2, ![n, 1]⟩ 32) (r : Fin R) (q : Fin n)
    (b : Fin N) (hb : idx (ix2 q 0) = BitVec.ofNat 32 b.val) (hN : N < 2 ^ 31) :
    Host.gather (colDims R N n wf) x idx (ix2 r q) = x (ix2 r b) := by
  unfold Host.gather
  congr 1
  funext a
  refine Fin.ext ?_
  show (colDims R N n wf).start (ix2 r q) idx a + (colDims R N n wf).batchCoord (ix2 r q) a + (colDims R N n wf).offCoord (ix2 r q) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h)]
    have hs : (colDims R N n wf).start (ix2 r q) idx 0 = 0 := by
      unfold GatherDims.start
      rw [dif_neg (by simp)]
    rw [hs]
    simp only [Nat.zero_add]
    unfold GatherDims.offCoord
    rw [dif_pos ((GatherDims.mem_sKept _ _).mpr (by simp))]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R N n wf).startIndexMap from List.mem_singleton.mpr rfl)]
    have hsi : (colDims R N n wf).siIdx (ix2 r q) ⟨List.idxOf (1 : Fin 2) (colDims R N n wf).startIndexMap,
        List.idxOf_lt_length_iff.2 (List.mem_singleton.mpr rfl)⟩ = ix2 q 0 := by
      funext b; refine Fin.ext ?_
      match b with
      | ⟨0, _⟩ => rfl
      | ⟨1, _⟩ => rfl
    rw [hsi, hb]
    show min (BitVec.ofNat 32 b.val).toInt.toNat (N - 1) = b.val
    rw [StableHlo.Predicate.toInt_ofNat_small _ (by omega)]
    omega

end Gather

/-- The table of location channels: column `coordinate · 9 + anchor` takes channel `anchor · 4 + coordinate`. -/
theorem words36 (q : Fin 36) : lit1 (S36.rowMajor (ix1 q)) = BitVec.ofNat 32 (q.val % 9 * 4 + q.val / 9) := by
  revert q; decide
/-- The table of score channels: column `class · 9 + anchor` takes channel `anchor · 2 + class`. -/
theorem words18 (q : Fin 18) : lit2 (S18.rowMajor (ix1 q)) = BitVec.ofNat 32 (q.val % 9 * 2 + q.val / 9) := by
  revert q; decide

/-- The location head's weights, a column per output. -/
theorem locWeights (ch : Fin 256) (q : Fin 36) : after hostOps0_2 (after hostOps0_1 (after hostOps0 V)) main_v97 (ix2 ch q)
    = V main_arg5 (ix4 ⟨q.val % 9 * 4 + q.val / 9, by omega⟩ ch 0 0) := by
  after_reads_simp
  refine (gather_col (gather_S256x36_S36x1_S256x36_0_1_n_n_1_1_2561_wf) _ _ ch q ⟨q.val % 9 * 4 + q.val / 9, by omega⟩ ?_ (by norm_num)).trans ?_
  · clean_types
    pointwise
    exact words36 q
  · clean_types
    pointwise

/-- The score head's weights. -/
theorem scoreWeights (ch : Fin 256) (q : Fin 18) : after hostOps0_2 (after hostOps0_1 (after hostOps0 V)) main_v104 (ix2 ch q)
    = V main_arg3 (ix4 ⟨q.val % 9 * 2 + q.val / 9, by omega⟩ ch 0 0) := by
  after_reads_simp
  refine (gather_col (gather_S256x18_S18x1_S256x18_0_1_n_n_1_1_2561_wf) _ _ ch q ⟨q.val % 9 * 2 + q.val / 9, by omega⟩ ?_ (by norm_num)).trans ?_
  · clean_types
    pointwise
    exact words18 q
  · clean_types
    pointwise

/-- The location head's bias. -/
theorem locBias (q : Fin 36) : after hostOps0_2 (after hostOps0_1 (after hostOps0 V)) main_v110 (ix2 0 q)
    = V main_arg6 (ix1 ⟨q.val % 9 * 4 + q.val / 9, by omega⟩) := by
  after_reads_at
  refine (Routing.gather_take1 gather_S36_S36x1_S36_n_0_n_n_0_1_1 rfl rfl rfl rfl _ _ q ⟨q.val % 9 * 4 + q.val / 9, by omega⟩ ?_ (by norm_num)).trans rfl
  pointwise
  exact words36 q

/-- The score head's bias. -/
theorem scoreBias (q : Fin 18) : after hostOps0_2 (after hostOps0_1 (after hostOps0 V)) main_v116 (ix2 0 q)
    = V main_arg4 (ix1 ⟨q.val % 9 * 2 + q.val / 9, by omega⟩) := by
  after_reads_at
  refine (Routing.gather_take1 gather_S18_S18x1_S18_n_0_n_n_0_1_1 rfl rfl rfl rfl _ _ q ⟨q.val % 9 * 2 + q.val / 9, by omega⟩ ?_ (by norm_num)).trans rfl
  pointwise
  exact words18 q

/-- The anchors. -/
theorem anchors (n : Fin 36864) (d : Fin 4) : after hostOps0 V main_v22 (ix2 n d) = Math.anchor lit0 n d := by
  unfold Math.anchor
  after_reads_at
  fin_vals d with hk
  all_goals simp only [hk, Nat.reduceSub, Nat.reduceLT, ↓reduceDIte]
  all_goals after_reads_at
  all_goals simp only [Nat.reduceMod, OfNat.ofNat_ne_zero, one_ne_zero, ↓reduceIte]

end Cert.Proof.KernelIdeal.Host

end
-- ==== Proof.KernelIdeal.ConvValue.lean ====
/-
  The convolution's output array, read entry by entry: the nine sums over channels, the bias and the positive part, of the
  launch's arrays.
-/
module

public import proofs.«01_k».proof.Proof.KernelIdeal.HostValue
public import proofs.«01_k».proof.Proof.KernelIdeal.Contents
public import Idealize.ShloMosaic.Lib.Pipeline.ValueKit.Geometry
import Idealize.ShloMosaic.Lib.Tactic
import Idealize.ShloMosaic.Lib.Pointwise

@[expose] public section

set_option maxRecDepth 100000
set_option maxHeartbeats 4000000

noncomputable section

namespace Cert.Proof.KernelIdeal.Conv

open Cert.KernelIdeal Cert.KernelIdeal.Gen
open Idealize.ShloMosaic Idealize.ShloMosaic.TcCoe Idealize.ShloMosaic.Tactic

variable (V : (c : Dev nD) → (b : Ref sig .tc) → Buf (Elt Ideal) ((c : Thread nD τ).loc b)) (c : Dev nD)

/-- One tap's step. -/
theorem pay2_at (a : Vec Ideal S4096x256 .f32) (x : Vec Ideal S1x4096x256 .f32) (w : Vec Ideal S1x256x256 .f32) (p : Fin 4096) (o : Fin 256) :
    k0_pay2 a x w (ix2 p o) = a (ix2 p o) + ∑ ch : Fin 256, x (ix3 0 p ch) * w (ix3 0 ch o) := by
  unfold k0_pay2
  pointwise
/-- Before the first tap the accumulator is zero. -/
theorem pay1_at (p : Fin 4096) (o : Fin 256) : k0_pay1 (F := Ideal) (ix2 p o) = (0 : EReal) := by
  unfold k0_pay1
  pointwise
/-- After the last tap come the bias and the positive part. -/
theorem pay3_at (a : Vec Ideal S4096x256 .f32) (b : Vec Ideal S1x256 .f32) (p : Fin 4096) (o : Fin 256) :
    k0_pay3 a b (ix2 p o) = max (a (ix2 p o) + b (ix2 0 o)) (0 : EReal) := by
  unfold k0_pay3
  pointwise

/-- A point's block of the shifted images is one of them. -/
theorem blk_x (k : Fin 9) (p : Fin 4096) (ch : Fin 256) : iblk V c 0 (pt k.val) (ix3 0 p ch) = V c main_v53 (ix3 k p ch) := by
  unfold iblk
  rw [View.read_apply]
  show V c main_v53 _ = _
  congr 1; funext a; apply Fin.ext
  match a with
  | ⟨0, _⟩ =>
    show win0_0.index (pt k.val) 0 * 1 + 1 * 0 = k.val
    have : win0_0.index (pt k.val) 0 = k.val := by revert k; decide
    omega
  | ⟨1, _⟩ =>
    show win0_0.index (pt k.val) 1 * 4096 + 1 * p.val = p.val
    have : win0_0.index (pt k.val) 1 = 0 := by revert k; decide
    omega
  | ⟨2, _⟩ =>
    show win0_0.index (pt k.val) 2 * 256 + 1 * ch.val = ch.val
    have : win0_0.index (pt k.val) 2 = 0 := by revert k; decide
    omega

/-- Its block of the weights likewise. -/
theorem blk_w (k : Fin 9) (ch o : Fin 256) : iblk V c 1 (pt k.val) (ix3 0 ch o) = V c main_v90 (ix3 k ch o) := by
  unfold iblk
  rw [View.read_apply]
  show V c main_v90 _ = _
  congr 1; funext a; apply Fin.ext
  match a with
  | ⟨0, _⟩ =>
    show win0_1.index (pt k.val) 0 * 1 + 1 * 0 = k.val
    have : win0_1.index (pt k.val) 0 = k.val := by revert k; decide
    omega
  | ⟨1, _⟩ =>
    show win0_1.index (pt k.val) 1 * 256 + 1 * ch.val = ch.val
    have : win0_1.index (pt k.val) 1 = 0 := by revert k; decide
    omega
  | ⟨2, _⟩ =>
    show win0_1.index (pt k.val) 2 * 256 + 1 * o.val = o.val
    have : win0_1.index (pt k.val) 2 = 0 := by revert k; decide
    omega

/-- Its block of the bias is the bias. -/
theorem blk_b (k : Fin 9) (o : Fin 256) : iblk V c 2 (pt k.val) (ix2 0 o) = V c main_v129 (ix2 0 o) := by
  unfold iblk
  rw [View.read_apply]
  show V c main_v129 _ = _
  congr 1; funext a; apply Fin.ext
  match a with
  | ⟨0, _⟩ =>
    show win0_2.index (pt k.val) 0 * 1 + 1 * 0 = 0
    have : win0_2.index (pt k.val) 0 = 0 := by revert k; decide
    omega
  | ⟨1, _⟩ =>
    show win0_2.index (pt k.val) 1 * 256 + 1 * o.val = o.val
    have : win0_2.index (pt k.val) 1 = 0 := by revert k; decide
    omega

/-- One sum over channels, of the launch's arrays. -/
def sum (p : Fin 4096) (o : Fin 256) (k : Fin 9) : EReal :=
  ∑ ch : Fin 256, @HMul.hMul EReal EReal EReal _ (V c main_v53 (ix3 k p ch)) (V c main_v90 (ix3 k ch o))

/-- One tap adds its sum. -/
theorem tap_at (a : Vec Ideal S4096x256 .f32) (k : Fin 9) (p : Fin 4096) (o : Fin 256) :
    k0_pay2 a (iblk V c 0 (pt k.val)) (iblk V c 1 (pt k.val)) (ix2 p o) = a (ix2 p o) + sum V c p o k := by
  rw [pay2_at, sum]
  simp only [blk_x, blk_w]

/-- The accumulator at the end. -/
theorem acc_at (p : Fin 4096) (o : Fin 256) :
    acc V c 8 (ix2 p o) = max (sum V c p o 0 + sum V c p o 1 + sum V c p o 2 + sum V c p o 3 + sum V c p o 4 + sum V c p o 5
      + sum V c p o 6 + sum V c p o 7 + sum V c p o 8 + V c main_v129 (ix2 0 o)) (0 : EReal) := by
  have h0 : acc V c 0 (ix2 p o) = sum V c p o 0 := (tap_at V c (k0_pay1 (F := Ideal)) 0 p o).trans (by rw [pay1_at, zero_add])
  have h1 : acc V c 1 (ix2 p o) = _ := tap_at V c (acc V c 0) 1 p o
  have h2 : acc V c 2 (ix2 p o) = _ := tap_at V c (acc V c 1) 2 p o
  have h3 : acc V c 3 (ix2 p o) = _ := tap_at V c (acc V c 2) 3 p o
  have h4 : acc V c 4 (ix2 p o) = _ := tap_at V c (acc V c 3) 4 p o
  have h5 : acc V c 5 (ix2 p o) = _ := tap_at V c (acc V c 4) 5 p o
  have h6 : acc V c 6 (ix2 p o) = _ := tap_at V c (acc V c 5) 6 p o
  have h7 : acc V c 7 (ix2 p o) = _ := tap_at V c (acc V c 6) 7 p o
  have h8 : acc V c 8 (ix2 p o) = _ := pay3_at (k0_pay2 (acc V c 7) (iblk V c 0 (pt 8)) (iblk V c 1 (pt 8))) (iblk V c 2 (pt 8)) p o
  have h9 := tap_at V c (acc V c 7) 8 p o
  have hb := blk_b V c 8 o
  rw [h8]
  refine congrArg₂ max (congrArg₂ (· + ·) ?_ hb) rfl
  refine h9.trans ?_
  rw [h7, h6, h5, h4, h3, h2, h1, h0]

/-- The output array ends as the accumulator. -/
theorem arr : (dat V c).arrAt 3 cfg0.N = acc V c 8 := by
  refine (dat V c).arrAt_eq_of_after_last 3 (pt 8) (by decide +kernel) (acc V c 8) fun j => ?_
  rw [after_3, show (pt 8).val = 8 from rfl]
  generalize acc V c 8 = A
  rfl

end Cert.Proof.KernelIdeal.Conv

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- An argument is as launched when the convolution is. -/
theorem V2_arg (b : Ref sig .tc) (h : b ∈ ([main_arg0, main_arg1, main_arg2] : List (Ref sig .tc))) : V2 m c b = V0 m c b := by
  simp only [List.mem_cons, List.not_mem_nil, or_false] at h
  rcases h with rfl | rfl | rfl <;> after_reads_simp

/-- The features, a row per pixel. -/
theorem hid_at (p : Fin 4096) (o : Fin 256) :
    W4 m c main_v130 (ix2 p o) = Math.hid (V0 m c main_arg0) (V0 m c main_arg1) (V0 m c main_arg2) o ⟨p.val / 64, by omega⟩ ⟨p.val % 64, by omega⟩ := by
  have hs : ∀ k : Fin 9, Conv.sum (atRef (V3 m)) c p o k
      = Math.tap (V0 m c main_arg0) (V0 m c main_arg1) o ⟨p.val / 64, by omega⟩ ⟨p.val % 64, by omega⟩ k := fun k => by
    unfold Conv.sum Math.tap
    refine Finset.sum_congr rfl fun ch _ => ?_
    rw [show atRef (V3 m) c main_v53 (ix3 k p ch) = _ from Host.taps (V2 m c) k p ch,
      show atRef (V3 m) c main_v90 (ix3 k ch o) = _ from Host.weights (V2 m c) k ch o,
      show V2 m c main_v25 _ = _ from Host.pad (V0 m c) _ _ ch, V2_arg m c main_arg1 (by simp)]
    exact mul_comm _ _
  rw [W4_at, conv, Conv.arr, Conv.acc_at, Math.hid]
  simp only [hs]
  rw [show atRef (V3 m) c main_v129 (ix2 0 o) = _ from Host.bias (V2 m c) o, V2_arg m c main_arg2 (by simp)]

end Cert.Proof.KernelIdeal

end
-- ==== Proof.KernelIdeal.HeadsValue.lean ====
/-
  The two heads' output arrays, read entry by entry: products of features with weights, summed over channels, plus a bias; and
  the kernel's first, second, fourth and last results.
-/
module

public import proofs.«01_k».proof.Proof.KernelIdeal.HostValue
public import proofs.«01_k».proof.Proof.KernelIdeal.Contents
public import proofs.«01_k».proof.Proof.KernelIdeal.ConvValue
public import Idealize.ShloMosaic.Lib.Pipeline.ValueKit.Geometry
import Idealize.ShloMosaic.Lib.Tactic
import Idealize.ShloMosaic.Lib.Pointwise

@[expose] public section

set_option maxRecDepth 100000
set_option maxHeartbeats 4000000

noncomputable section

namespace Cert.Proof.KernelIdeal.Heads

open Cert.KernelIdeal Cert.KernelIdeal.Gen
open Idealize.ShloMosaic Idealize.ShloMosaic.TcCoe Idealize.ShloMosaic.Tactic

variable (V : (c : Dev nD) → (b : Ref sig .tc) → Buf (Elt Ideal) ((c : Thread nD τ).loc b)) (c : Dev nD)

/-- The location head's product. -/
theorem locs_at (x : Vec Ideal S4096x256 .f32) (w : Vec Ideal S256x36 .f32) (b : Vec Ideal S1x36 .f32) (p : Fin 4096) (q : Fin 36) :
    outLocs x w b (ix2 p q) = (∑ ch : Fin 256, x (ix2 p ch) * w (ix2 ch q) : EReal) + b (ix2 0 q) := by
  unfold outLocs k1_pay6 k1_pay5
  pointwise

/-- The score head's product. -/
theorem scores_at (x : Vec Ideal S4096x256 .f32) (w : Vec Ideal S256x18 .f32) (b : Vec Ideal S1x18 .f32) (p : Fin 4096) (q : Fin 18) :
    outScores x w b (ix2 p q) = (∑ ch : Fin 256, x (ix2 p ch) * w (ix2 ch q) : EReal) + b (ix2 0 q) := by
  unfold outScores k1_pay7 k1_pay5
  pointwise

/-! The launch has one point, and every input's block is its whole array. -/

theorem blk_1 (t) : iblk V c 1 t = V c main_v130 := by
  funext j
  unfold iblk
  rw [View.read_apply]
  show V c main_v130 _ = _
  congr 1; funext a; apply Fin.ext
  show 0 * _ + 1 * (j a).val = (j a).val
  omega

theorem blk_2 (t) : iblk V c 2 t = V c main_v97 := by
  funext j
  unfold iblk
  rw [View.read_apply]
  show V c main_v97 _ = _
  congr 1; funext a; apply Fin.ext
  show 0 * _ + 1 * (j a).val = (j a).val
  omega

theorem blk_3 (t) : iblk V c 3 t = V c main_v104 := by
  funext j
  unfold iblk
  rw [View.read_apply]
  show V c main_v104 _ = _
  congr 1; funext a; apply Fin.ext
  show 0 * _ + 1 * (j a).val = (j a).val
  omega

theorem blk_4 (t) : iblk V c 4 t = V c main_v110 := by
  funext j
  unfold iblk
  rw [View.read_apply]
  show V c main_v110 _ = _
  congr 1; funext a; apply Fin.ext
  show 0 * _ + 1 * (j a).val = (j a).val
  omega

theorem blk_5 (t) : iblk V c 5 t = V c main_v116 := by
  funext j
  unfold iblk
  rw [View.read_apply]
  show V c main_v116 _ = _
  congr 1; funext a; apply Fin.ext
  show 0 * _ + 1 * (j a).val = (j a).val
  omega

/-- The point. -/
abbrev t₀ : Fin cfg1.N := ⟨0, by decide⟩

/-- The location head's output array. -/
theorem arr10 : (dat V c).arrAt 10 cfg1.N = outLocs (V c main_v130) (V c main_v97) (V c main_v110) := by
  refine (dat V c).arrAt_eq_of_after_last 10 t₀ (by decide +kernel) _ fun j => ?_
  rw [after_10, blk_1, blk_2, blk_4]
  generalize outLocs (V c main_v130) (V c main_v97) (V c main_v110) = A
  rfl

/-- The score head's output array. -/
theorem arr11 : (dat V c).arrAt 11 cfg1.N = outScores (V c main_v130) (V c main_v104) (V c main_v116) := by
  refine (dat V c).arrAt_eq_of_after_last 11 t₀ (by decide +kernel) _ fun j => ?_
  rw [after_11, blk_1, blk_3, blk_5]
  generalize outScores (V c main_v130) (V c main_v104) (V c main_v116) = A
  rfl

end Cert.Proof.KernelIdeal.Heads

namespace Cert.Proof.KernelIdeal

open Cert.KernelIdeal Cert.KernelIdeal.Gen
open Idealize.ShloMosaic Idealize.ShloMosaic.TcCoe Idealize.ShloMosaic.Tactic Idealize.ShloMosaic.StableHlo

/-! The results as the last operations make them from the heads' arrays. -/

/-- The first result is the first head's array, its anchors and numbers parted. -/
theorem tail1 (V : Valuation τ sig (Elt Ideal)) (n : Fin 36864) (d : Fin 4) :
    after hostOps3 V main_v141 (ix3 0 n d) = V main_v131_0 (ix2 ⟨n.val / 9, by omega⟩ ⟨d.val * 9 + n.val % 9, by omega⟩) := by
  after_reads_at
/-- The second result, likewise from the second head's array. -/
theorem tail2 (V : Valuation τ sig (Elt Ideal)) (n : Fin 36864) (d : Fin 2) :
    after hostOps3 V main_v144 (ix3 0 n d) = V main_v131_1 (ix2 ⟨n.val / 9, by omega⟩ ⟨d.val * 9 + n.val % 9, by omega⟩) := by
  after_reads_at
/-- The row numbers are all zero. -/
theorem tail4 (V : Valuation τ sig (Elt Ideal)) (n : Fin 2000) : after hostOps3 V main_v146 (ix1 n) = (0 : EReal) := by
  after_reads_at
/-- The anchors stay as they were. -/
theorem tail6 (V : Valuation τ sig (Elt Ideal)) : after hostOps3 V main_v22 = V main_v22 := by
  after_reads_simp

variable (m : (ℓ : Loc nD τ sig) → Buf (Elt Ideal) ℓ) (c : Dev nD)

/-- The stretch between the heads and the suppression leaves the heads' first two arrays and the anchors alone. -/
theorem W6_kept (b : Ref sig .tc) (h : b ∈ ([main_v131_0, main_v131_1, main_v22] : List (Ref sig .tc))) : W6 m c b = W5 m c b := by
  show after hostOps2 (W5 m c) b = W5 m c b
  generalize W5 m c = W
  simp only [List.mem_cons, List.not_mem_nil, or_false] at h
  rcases h with rfl | rfl | rfl <;> after_reads_simp

/-- The anchors are made before the convolution's arrays and kept. -/
theorem V3_anchor : V3 m c main_v22 = after hostOps0 (V0 m c) main_v22 := by
  show after hostOps0_2 (after hostOps0_1 (after hostOps0 (V0 m c))) main_v22 = _
  generalize after hostOps0 (V0 m c) = W
  after_reads_simp

/-- The features. -/
abbrev feats (o : Fin 256) (i j : Fin 64) : EReal := Math.hid (V0 m c main_arg0) (V0 m c main_arg1) (V0 m c main_arg2) o i j

/-- The first result. -/
theorem locs (n : Fin 36864) (d : Fin 4) : W8 m c main_v141 (ix3 0 n d)
    = Math.head (feats m c) (V0 m c main_arg5) (V0 m c main_arg6) ⟨n.val % 9 * 4 + d.val, by omega⟩ ⟨n.val / 576, by omega⟩ ⟨n.val / 9 % 64, by omega⟩ := by
  have eq : (⟨(d.val * 9 + n.val % 9) % 9 * 4 + (d.val * 9 + n.val % 9) / 9, by omega⟩ : Fin 36) = ⟨n.val % 9 * 4 + d.val, by omega⟩ :=
    Fin.ext (by dsimp only; omega)
  have ei : (⟨n.val / 9 / 64, by omega⟩ : Fin 64) = ⟨n.val / 576, by omega⟩ := Fin.ext (by dsimp only; omega)
  rw [show W8 m c main_v141 (ix3 0 n d) = _ from tail1 (W7 m c) n d, W7_of m c main_v131_0 (by decide), W6_kept m c _ (by simp), W5_at_0, heads,
    Heads.arr10, Heads.locs_at, Math.head]
  refine congrArg₂ (· + ·) (Finset.sum_congr rfl fun ch _ => ?_) ?_
  · rw [show atRef (W4 m) c main_v130 _ = _ from hid_at m c _ ch, show atRef (W4 m) c main_v97 = _ from W4_of m c main_v97 (by decide),
      show V3 m c main_v97 _ = _ from Host.locWeights (V0 m c) ch _, eq, ei]
    exact mul_comm _ _
  · rw [show atRef (W4 m) c main_v110 = _ from W4_of m c main_v110 (by decide), show V3 m c main_v110 _ = _ from Host.locBias (V0 m c) _, eq]

/-- The second result. -/
theorem scores (n : Fin 36864) (d : Fin 2) : W8 m c main_v144 (ix3 0 n d)
    = Math.head (feats m c) (V0 m c main_arg3) (V0 m c main_arg4) ⟨n.val % 9 * 2 + d.val, by omega⟩ ⟨n.val / 576, by omega⟩ ⟨n.val / 9 % 64, by omega⟩ := by
  have eq : (⟨(d.val * 9 + n.val % 9) % 9 * 2 + (d.val * 9 + n.val % 9) / 9, by omega⟩ : Fin 18) = ⟨n.val % 9 * 2 + d.val, by omega⟩ :=
    Fin.ext (by dsimp only; omega)
  have ei : (⟨n.val / 9 / 64, by omega⟩ : Fin 64) = ⟨n.val / 576, by omega⟩ := Fin.ext (by dsimp only; omega)
  rw [show W8 m c main_v144 (ix3 0 n d) = _ from tail2 (W7 m c) n d, W7_of m c main_v131_1 (by decide), W6_kept m c _ (by simp), W5_at_1, heads,
    Heads.arr11, Heads.scores_at, Math.head]
  refine congrArg₂ (· + ·) (Finset.sum_congr rfl fun ch _ => ?_) ?_
  · rw [show atRef (W4 m) c main_v130 _ = _ from hid_at m c _ ch, show atRef (W4 m) c main_v104 = _ from W4_of m c main_v104 (by decide),
      show V3 m c main_v104 _ = _ from Host.scoreWeights (V0 m c) ch _, eq, ei]
    exact mul_comm _ _
  · rw [show atRef (W4 m) c main_v116 = _ from W4_of m c main_v116 (by decide), show V3 m c main_v116 _ = _ from Host.scoreBias (V0 m c) _, eq]

/-- The fourth result. -/
theorem indices (n : Fin 2000) : W8 m c main_v146 (ix1 n) = (0 : EReal) := tail4 (W7 m c) n

/-- The last result. -/
theorem anchors (n : Fin 36864) (d : Fin 4) : W8 m c main_v22 (ix2 n d) = Math.anchor lit0 n d := by
  rw [show W8 m c main_v22 = _ from tail6 (W7 m c), W7_of m c main_v22 (by decide), W6_kept m c _ (by simp), W5_of m c main_v22 (by decide),
    W4_of m c main_v22 (by decide), V3_anchor]
  exact Host.anchors (V0 m c) n d

end Cert.Proof.KernelIdeal

end
-- ==== Proof.ReferenceIdeal.Value.lean ====
/-
  The reference's values before its loop, read entry by entry off the arguments: the features, the two heads, the anchors; and
  that nothing after them writes them.
-/
module

public import proofs.«01_k».proof.Proof.Math
public import proofs.«01_k».proof.Proof.ReferenceIdeal.Trips
public import Idealize.ShloMosaic.Lib.StableHlo.ReadAt
public import Idealize.ShloMosaic.PureOps.Ideal
import Idealize.ShloMosaic.Lib.Tactic
import Idealize.ShloMosaic.Lib.Pointwise

@[expose] public section

set_option maxRecDepth 100000
set_option maxHeartbeats 4000000

noncomputable section

namespace Cert.Proof.ReferenceIdeal.Value

open Cert.ReferenceIdeal Cert.Proof.ReferenceIdeal
open Idealize.ShloMosaic Idealize.ShloMosaic.TcCoe Idealize.ShloMosaic.Tactic Idealize.ShloMosaic.StableHlo

variable (V : Valuation τ sig (Elt Ideal))

/-- A line of operations in two pieces. -/
theorem after_split : ∀ (n : ℕ) (l : List (HloOp τ sig (Elt Ideal))) (V : Valuation τ sig (Elt Ideal)),
    after l V = after (l.drop n) (after (l.take n) V)
  | 0, _, _ => rfl
  | _ + 1, [], _ => rfl
  | n + 1, op :: l, V => after_split n l (op.result V)

/-- The image with its border. -/
theorem pad (ch : Fin 256) (i j : Fin 66) : after (line0.1.take 5) V main_v1 (ix3 ch i j) = Math.padded (V main_arg0) ch i j := by
  unfold Math.padded line0
  simp only [List.take_succ_cons, List.take_zero]
  after_reads_at
  have hz : FloatOps.sitofp (F := Ideal) FTy.f32 0#32 = (0 : EReal) := by
    show (((0#32 : BitVec 32).toInt : ℝ) : EReal) = 0
    simp
  rw [hz]
  have e : ((1 ≤ i.val ∧ i.val - 1 < 64) ∧ 1 ≤ j.val ∧ j.val - 1 < 64) ↔ ((1 ≤ i.val ∧ i.val < 65) ∧ 1 ≤ j.val ∧ j.val < 65) := by omega
  simp only [e]

/-- The operations that make the border leave the convolution's weights and bias alone. -/
theorem pad_of (b : Ref sig .tc) (h : b ∈ ([main_arg1, main_arg2] : List (Ref sig .tc))) : after (line0.1.take 5) V b = V b := by
  unfold line0
  simp only [List.take_succ_cons, List.take_zero]
  simp only [List.mem_cons, List.not_mem_nil, or_false] at h
  rcases h with rfl | rfl <;> after_reads_simp

/-- The features, from the bordered image. -/
theorem hid_of (x : (⟨4, ![1, 256, 64, 64]⟩ : Shape).Idx → EReal) (hx : ∀ ch (i j : Fin 66), V main_v1 (ix3 ch i j) = Math.padded x ch i j)
    (o : Fin 256) (i j : Fin 64) :
    after ((line0.1.drop 5).take 53) V main_v51 (ix3 o i j) = Math.hid x (V main_arg1) (V main_arg2) o i j := by
  unfold line0 Math.hid Math.tap
  simp only [List.drop_succ_cons, List.drop_zero, List.take_succ_cons, List.take_zero]
  after_reads_at
  simp only [hx]
  simp only [Nat.add_comm]

/-- The features. -/
theorem hid (o : Fin 256) (i j : Fin 64) :
    after (line0.1.take 58) V main_v51 (ix3 o i j) = Math.hid (V main_arg0) (V main_arg1) (V main_arg2) o i j := by
  rw [after_split 5, show (line0.1.take 58).take 5 = line0.1.take 5 by rw [List.take_take]; rfl,
    show (List.take 58 (line0 (F := Ideal)).1).drop 5 = ((line0 (F := Ideal)).1.drop 5).take 53 by rw [List.drop_take],
    hid_of _ (V main_arg0) (fun ch i j => pad V ch i j), pad_of V _ (by simp), pad_of V _ (by simp)]

/-- The operations that make the features leave the heads' weights and biases alone. -/
theorem hid_args (b : Ref sig .tc) (h : b ∈ ([main_arg3, main_arg4, main_arg5, main_arg6] : List (Ref sig .tc))) :
    after (line0.1.take 58) V b = V b := by
  unfold line0
  simp only [List.take_succ_cons, List.take_zero]
  simp only [List.mem_cons, List.not_mem_nil, or_false] at h
  rcases h with rfl | rfl | rfl | rfl <;> after_reads_simp

/-- The location head, from the features. -/
theorem loc_of (h : Fin 256 → Fin 64 → Fin 64 → EReal) (hh : ∀ o i j, V main_v51 (ix3 o i j) = h o i j) (n : Fin 36864) (d : Fin 4) :
    after line1.1 (after (line0.1.drop 58) V) main_v63 (ix3 0 n d)
      = Math.head h (V main_arg5) (V main_arg6) ⟨n.val % 9 * 4 + d.val, by omega⟩ ⟨n.val / 576, by omega⟩ ⟨n.val / 9 % 64, by omega⟩ := by
  unfold line0 line1 Math.head
  simp only [List.drop_succ_cons, List.drop_zero]
  after_reads_at
  simp only [hh]

/-- The score head, from the features. -/
theorem score_of (h : Fin 256 → Fin 64 → Fin 64 → EReal) (hh : ∀ o i j, V main_v51 (ix3 o i j) = h o i j) (n : Fin 36864) (d : Fin 2) :
    after line1.1 (after (line0.1.drop 58) V) main_v65 (ix3 0 n d)
      = Math.head h (V main_arg3) (V main_arg4) ⟨n.val % 9 * 2 + d.val, by omega⟩ ⟨n.val / 576, by omega⟩ ⟨n.val / 9 % 64, by omega⟩ := by
  unfold line0 line1 Math.head
  simp only [List.drop_succ_cons, List.drop_zero]
  after_reads_at
  simp only [hh]

/-- The anchors. -/
theorem anchors (n : Fin 36864) (d : Fin 4) : after line1.1 (after line0.1 V) main_v101 (ix2 n d) = Math.anchor lit0 n d := by
  unfold Math.anchor line1 line0
  after_reads_at
  fin_vals d with hk
  all_goals simp only [hk, Nat.reduceSub, Nat.reduceLT, ↓reduceDIte]
  all_goals after_reads_at
  all_goals simp only [Nat.reduceMod, OfNat.ofNat_ne_zero, one_ne_zero, ↓reduceIte]

variable {F : FTy → Type} [FloatOps F]

/-- The results that the loop does not make. -/
abbrev early : List (Ref sig .tc) := [main_v63, main_v65, main_v101]

/-- Nothing after the first two lines and before the loop writes them. -/
theorem early_pre (V : Valuation τ sig (Elt F)) {b : Ref sig .tc} (h : b ∈ early) : after line3.1 (after line2.1 V) (Proc.devRef .tc b) = V (Proc.devRef .tc b) := by
  unfold line3 line2
  simp only [early, List.mem_cons, List.not_mem_nil, or_false] at h
  rcases h with rfl | rfl | rfl <;> after_reads_simp

/-- No trip writes them. -/
theorem early_trip (V : Valuation τ sig (Elt F)) {b : Ref sig .tc} (h : b ∈ early) :
    after body2.1 (after body1.1 (after body0.1 (after condOps V))) (Proc.devRef .tc b) = V (Proc.devRef .tc b) := by
  unfold body2 body1 body0
  simp only [early, List.mem_cons, List.not_mem_nil, or_false] at h
  rcases h with rfl | rfl | rfl <;> after_reads_simp

/-- Nor does the last line. -/
theorem early_post (V : Valuation τ sig (Elt F)) {b : Ref sig .tc} (h : b ∈ early) : after line4 (after condOps V) (Proc.devRef .tc b) = V (Proc.devRef .tc b) := by
  unfold line4
  simp only [early, List.mem_cons, List.not_mem_nil, or_false] at h
  rcases h with rfl | rfl | rfl <;> after_reads_simp

variable (m : (ℓ : Loc nD τ sig) → Buf (Elt F) ℓ)

/-- They are before every trip what the first two lines made. -/
theorem early_atK {b : Ref sig .tc} (h : b ∈ early) (c : Dev nD) : ∀ k, atK m k c (Proc.devRef .tc b)
    = after line1.1 (after line0.1 (launchContents m c)) (Proc.devRef .tc b)
  | 0 => early_pre (after line1.1 (after line0.1 (launchContents m c))) h
  | k + 1 => by rw [atK_succ, early_trip _ h, early_atK h c k]

/-- They end as the first two lines made them. -/
theorem early_final {b : Ref sig .tc} (h : b ∈ early) (c : Dev nD) :
    finalContents condOps preI bodyI postI 2000 m c (Proc.devRef .tc b)
      = after line1.1 (after line0.1 (launchContents m c)) (Proc.devRef .tc b) := by
  rw [final_eq, early_post _ h, early_atK m h]

/-- The vector of indices ends as zeros. -/
theorem zeros (m : (ℓ : Loc nD τ sig) → Buf (Elt Ideal) ℓ) (c : Dev nD) (n : Fin 2000) : finalContents condOps preI bodyI postI 2000 m c (Proc.devRef .tc main_v183) (ix1 n) = (0 : EReal) := by
  rw [final_eq]
  generalize after condOps (atK m 2000 c) = W
  unfold line4
  after_reads_at

section Results
variable (m : (ℓ : Loc nD τ sig) → Buf (Elt Ideal) ℓ) (c : Dev nD)

/-- An argument, as launched. -/
abbrev arg (b : Ref sig .tc) : Buf (Elt Ideal) ((c.tc : Thread nD τ).loc b) := m ((c.tc : Thread nD τ).loc b)

/-- The first result. -/
theorem locs (n : Fin 36864) (d : Fin 4) : finalContents condOps preI bodyI postI 2000 m c (Proc.devRef .tc main_v63) (ix3 0 n d)
    = Math.head (fun o i j => Math.hid (arg m c main_arg0) (arg m c main_arg1) (arg m c main_arg2) o i j) (arg m c main_arg5) (arg m c main_arg6)
        ⟨n.val % 9 * 4 + d.val, by omega⟩ ⟨n.val / 576, by omega⟩ ⟨n.val / 9 % 64, by omega⟩ := by
  rw [early_final m (by simp), after_split 58 (line0 (F := Ideal)).1,
    loc_of _ _ (fun o i j => hid (launchContents m c) o i j) n d, hid_args _ _ (by simp), hid_args _ _ (by simp)]

/-- The second result. -/
theorem scores (n : Fin 36864) (d : Fin 2) : finalContents condOps preI bodyI postI 2000 m c (Proc.devRef .tc main_v65) (ix3 0 n d)
    = Math.head (fun o i j => Math.hid (arg m c main_arg0) (arg m c main_arg1) (arg m c main_arg2) o i j) (arg m c main_arg3) (arg m c main_arg4)
        ⟨n.val % 9 * 2 + d.val, by omega⟩ ⟨n.val / 576, by omega⟩ ⟨n.val / 9 % 64, by omega⟩ := by
  rw [early_final m (by simp), after_split 58 (line0 (F := Ideal)).1,
    score_of _ _ (fun o i j => hid (launchContents m c) o i j) n d, hid_args _ _ (by simp), hid_args _ _ (by simp)]

/-- The last result. -/
theorem anchors_final (n : Fin 36864) (d : Fin 4) : finalContents condOps preI bodyI postI 2000 m c (Proc.devRef .tc main_v101) (ix2 n d)
    = Math.anchor lit0 n d := by
  rw [early_final m (by simp)]
  exact anchors _ n d

end Results

end Cert.Proof.ReferenceIdeal.Value

end
-- ==== Proof.Algebraic.lean ====
/-
  The kernel's exact reading and the reference agree on their first two results, the row numbers and the anchors.
-/
module

public import proofs.«01_k».proof.Defs
public import proofs.«01_k».proof.Proof.KernelIdeal.Run
public import proofs.«01_k».proof.Proof.KernelIdeal.HeadsValue
public import proofs.«01_k».proof.Proof.ReferenceIdeal.Run
public import proofs.«01_k».proof.Proof.ReferenceIdeal.Value

@[expose] public section

set_option maxRecDepth 16384

noncomputable section

namespace Cert.Proof

open Idealize.ShloMosaic Idealize.SL.Sem Idealize.ShloMosaic.StableHlo
open TcCoe

/-- The mask's shapes fit. -/
theorem mask_facts : Cert.On_before_suppression.Facts := by
  constructor <;> decide

/-- A result in three axes, the first of length one, is settled by the other two. -/
theorem eq_of_rows {α : Type} {n d : Nat} {f g : (⟨3, ![1, n, d]⟩ : Shape).Idx → α} (h : ∀ a b, f (ix3 0 a b) = g (ix3 0 a b))
    (i : (⟨3, ![1, n, d]⟩ : Shape).Idx) : f i = g i := by
  obtain ⟨a, b, rfl⟩ : ∃ a b, i = ix3 0 a b := ⟨i 1, i 2, by
    conv_lhs => rw [eq_ix3 i]
    exact congrArg (fun z => ix3 z (i 1) (i 2)) (Subsingleton.elim (α := Fin 1) (i 0) 0)⟩
  exact h a b

/-- The two programs tabulate the same nine boxes. -/
theorem base_eq : Cert.ReferenceIdeal.lit0 = Cert.KernelIdeal.lit0 := rfl

/-- A head over the features is settled by the arguments it is made from. -/
theorem head_congr {k : Nat} {x x' : (⟨4, ![1, 256, 64, 64]⟩ : Shape).Idx → EReal} {w w' : (⟨4, ![256, 256, 3, 3]⟩ : Shape).Idx → EReal}
    {b b' : (⟨1, ![256]⟩ : Shape).Idx → EReal} {h h' : (⟨4, ![k, 256, 1, 1]⟩ : Shape).Idx → EReal} {a a' : (⟨1, ![k]⟩ : Shape).Idx → EReal}
    (hx : x = x') (hw : w = w') (hb : b = b') (hh : h = h') (ha : a = a') {o : Fin k} {i j : Fin 64} :
    Math.head (fun o i j => Math.hid x w b o i j) h a o i j = Math.head (fun o i j => Math.hid x' w' b' o i j) h' a' o i j := by
  subst hx hw hb hh ha; rfl

/-- Away from the suppression's own results the kernel over exact values and the reference end with the same numbers. -/
theorem algebraic : Cert.algebraic_KernelIdeal_ReferenceIdeal_on_before_suppression (hKernelIdeal := Cert.KernelIdeal.Gen.facts)
    (hReferenceIdeal := Cert.Proof.ReferenceIdeal.facts) (hOn_before_suppression := mask_facts) := by
  intro m g m' g' _ hargs
  refine ⟨fun c => KernelIdeal.W8 m c Cert.KernelIdeal.main_v141, fun c => KernelIdeal.W8 m c Cert.KernelIdeal.main_v144,
    fun c => KernelIdeal.W8 m c Cert.KernelIdeal.main_v145, fun c => KernelIdeal.W8 m c Cert.KernelIdeal.main_v146,
    fun c => KernelIdeal.W8 m c Cert.KernelIdeal.main_v150, fun c => KernelIdeal.W8 m c Cert.KernelIdeal.main_v22, ?_, ?_⟩
  · refine (θ_run Cert.KernelIdeal.defs _ _).mono (fun r h c => ?_) (KernelIdeal.run (F := Ideal) m g)
    refine ⟨fun i _ => congrFun (h.1 c (Proc.devRef .tc Cert.KernelIdeal.main_v141) (KernelIdeal.mem_held _ rfl)) i,
      fun i _ => congrFun (h.1 c (Proc.devRef .tc Cert.KernelIdeal.main_v144) (KernelIdeal.mem_held _ rfl)) i,
      fun i _ => congrFun (h.1 c (Proc.devRef .tc Cert.KernelIdeal.main_v145) (KernelIdeal.mem_held _ rfl)) i,
      fun i _ => congrFun (h.1 c (Proc.devRef .tc Cert.KernelIdeal.main_v146) (KernelIdeal.mem_held _ rfl)) i,
      fun i _ => congrFun (h.1 c (Proc.devRef .tc Cert.KernelIdeal.main_v150) (KernelIdeal.mem_held _ rfl)) i,
      fun i _ => congrFun (h.1 c (Proc.devRef .tc Cert.KernelIdeal.main_v22) (KernelIdeal.mem_held _ rfl)) i,
      ?_, ?_, ?_, ?_, ?_, ?_, ?_, ?_⟩ <;>
    exact (h.1 c _ (KernelIdeal.mem_held _ rfl)).trans (KernelIdeal.arg_kept m c _ (by decide) (by decide) (by decide) (by decide)
      (by decide) (by decide) (by decide) (by decide))
  · refine (θ_run Cert.ReferenceIdeal.defs _ _).mono (fun r h c => ?_) (ReferenceIdeal.run (F := Ideal) m' g')
    obtain ⟨h0, h1, h2, h3, h4, h5, h6, -⟩ := hargs c
    refine ⟨fun i _ => (congrFun (h c Cert.ReferenceIdeal.main_v63 rfl) i).trans (eq_of_rows (fun a b => ?_) i),
      fun i _ => (congrFun (h c Cert.ReferenceIdeal.main_v65 rfl) i).trans (eq_of_rows (fun a b => ?_) i),
      fun i hi => absurd hi (by show ¬ (0#1 = 1#1); decide),
      fun i _ => (congrFun (h c Cert.ReferenceIdeal.main_v183 rfl) i).trans ?_,
      fun i hi => absurd hi (by show ¬ (0#1 = 1#1); decide),
      fun i _ => (congrFun (h c Cert.ReferenceIdeal.main_v101 rfl) i).trans ?_,
      ?_, ?_, ?_, ?_, ?_, ?_, ?_, ?_⟩
    · refine (ReferenceIdeal.Value.locs m' c a b).trans (Eq.trans ?_ (KernelIdeal.locs m c a b).symm)
      exact head_congr h0 h1 h2 h5 h6
    · refine (ReferenceIdeal.Value.scores m' c a b).trans (Eq.trans ?_ (KernelIdeal.scores m c a b).symm)
      exact head_congr h0 h1 h2 h3 h4
    · rw [eq_ix1 i]
      exact (ReferenceIdeal.Value.zeros m' c (i 0)).trans (KernelIdeal.indices m c (i 0)).symm
    · rw [eq_ix2 i]
      exact (ReferenceIdeal.Value.anchors_final m' c (i 0) (i 1)).trans (KernelIdeal.anchors m c (i 0) (i 1)).symm
    all_goals exact (h c _ rfl).trans (ReferenceIdeal.final_args m' (by decide) c)

end Cert.Proof

end
-- ==== Proof.lean ====
/-
  The certificate: the three frames, that the kernel's program and its exact reading are one program, and that over exact
  values the kernel and the reference agree wherever the suppression has no part.
-/
module

public import proofs.«01_k».proof.Defs
public import proofs.«01_k».proof.Proof.Frames
public import proofs.«01_k».proof.Proof.Algebraic

@[expose] public section

noncomputable section

namespace Cert.Proof

/-- Everything claimed. -/
theorem claim : Cert.Claim :=
  ⟨Cert.Kernel.Gen.facts, Cert.KernelIdeal.Gen.facts, Cert.Proof.ReferenceIdeal.facts, mask_facts, frame_kernel, frame_ideal,
    frame_reference, trivial, algebraic⟩

end Cert.Proof

end
